-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_usable [hPre_usable : Cert.Pre_usable.Facts] (m : (ℓ : Loc Cert.KernelIdeal.nD Cert.KernelIdeal.τ Cert.KernelIdeal.sig) → Buf (Elt Ideal) ℓ) : Prop :=
  ∀ c : Dev Cert.KernelIdeal.nD,
    (Cert.Pre_usable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_usable [hPre_usable : Cert.Pre_usable.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_usable.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_usable [hKernelIdeal : Cert.KernelIdeal.Facts] [hPre_usable : Cert.Pre_usable.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_usable m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_usable [hReferenceIdeal : Cert.ReferenceIdeal.Facts] [hPre_usable : Cert.Pre_usable.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_usable m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  IdealRules.named_const.Statement Cert.KernelIdeal.κ "scale" .f32 0xBE3504F3#32 ((-((Real.sqrt 32)⁻¹) : ℝ) : EReal)
  ∧ IdealRules.named_const.Statement Cert.KernelIdeal.κ "mask" .f32 0xCE6E6B28#32 ⊥

def algebraic_KernelIdeal_ReferenceIdeal_pre_usable [hKernelIdeal : Cert.KernelIdeal.Facts] [hReferenceIdeal : Cert.ReferenceIdeal.Facts] [hPre_usable : Cert.Pre_usable.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_usable m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v137) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_usable : Cert.Pre_usable.Facts),
    quiescent_Kernel (hKernel := hKernel)
    ∧ quiescent_KernelIdeal (hKernelIdeal := hKernelIdeal)
    ∧ quiescent_KernelIdeal_pre_usable (hKernelIdeal := hKernelIdeal) (hPre_usable := hPre_usable)
    ∧ quiescent_ReferenceIdeal (hReferenceIdeal := hReferenceIdeal)
    ∧ quiescent_ReferenceIdeal_pre_usable (hReferenceIdeal := hReferenceIdeal) (hPre_usable := hPre_usable)
    ∧ preserves_Kernel_KernelIdeal
    ∧ algebraic_KernelIdeal_ReferenceIdeal_pre_usable (hKernelIdeal := hKernelIdeal) (hReferenceIdeal := hReferenceIdeal) (hPre_usable := hPre_usable)
-- ==== Pre_usable.lean ====
abbrev S2x96x384x384 : Shape := ⟨4, ![2, 96, 384, 384]⟩
abbrev S2x576x64 : Shape := ⟨3, ![2, 576, 64]⟩
abbrev S96 : Shape := ⟨1, ![96]⟩
abbrev S96x96 : Shape := ⟨2, ![96, 96]⟩
abbrev S2x147456 : Shape := ⟨2, ![2, 147456]⟩
abbrev S_ : Shape := ⟨0, ![]⟩
abbrev S2x576 : Shape := ⟨2, ![2, 576]⟩

class Facts : Prop where
  bcast_S_S96 : S_.BroadcastsInDim S96 (![] : Fin 0 → Fin S96.rank)
  reducesTo_S96_S_d0 : S96.ReducesTo [0] S_
  h_S_ : 0 < S_.numel
  bcast_S_S96x96 : S_.BroadcastsInDim S96x96 (![] : Fin 0 → Fin S96x96.rank)
  reducesTo_S96x96_S_d0_1 : S96x96.ReducesTo [0, 1] S_
  bcast_S_S2x576x64 : S_.BroadcastsInDim S2x576x64 (![] : Fin 0 → Fin S2x576x64.rank)
  reducesTo_S2x576x64_S2x576_d2 : S2x576x64.ReducesTo [2] S2x576
  reducesTo_S2x576_S_d0_1 : S2x576.ReducesTo [0, 1] S_
  reducesTo_S2x576x64_S_d0_1_2 : S2x576x64.ReducesTo [0, 1, 2] S_

variable [Facts]

def fn_part2 {F : FTy → Type} [FloatOps F] (main_arg8 : IVec S2x576x64 32) (main_v5 : IVec S_ 1) (main_v11 : IVec S_ 1) (main_v17 : IVec S_ 1) (main_v23 : IVec S_ 1) (main_v29 : IVec S_ 1) (main_v31 : IVec S2x576x64 1) : IVec S_ 1 :=
  let main_c_14 : IVec S_ 1 := constantI S_ 1 0#1
  let main_v32 : IVec S2x576 1 := (fun x v => Host.reduce IntOp.ori x v reducesTo_S2x576x64_S2x576_d2 h_S_) main_v31 main_c_14
  let main_c_15 : IVec S_ 1 := constantI S_ 1 1#1
  let main_v33 : IVec S_ 1 := (fun x v => Host.reduce IntOp.andi x v reducesTo_S2x576_S_d0_1 h_S_) main_v32 main_c_15
  let main_c_16 : IVec S_ 32 := constantI S_ 32 0#32
  let main_v34 : IVec S2x576x64 32 := broadcastInDim S2x576x64 ![] bcast_S_S2x576x64 main_c_16
  let main_v35 : IVec S2x576x64 1 := cmpi .sge main_arg8 main_v34
  let main_c_17 : IVec S_ 32 := constantI S_ 32 147456#32
  let main_v36 : IVec S2x576x64 32 := broadcastInDim S2x576x64 ![] bcast_S_S2x576x64 main_c_17
  let main_v37 : IVec S2x576x64 1 := cmpi .slt main_arg8 main_v36
  let main_v38 : IVec S2x576x64 1 := andi main_v35 main_v37
  let main_c_18 : IVec S_ 1 := constantI S_ 1 1#1
  let main_v39 : IVec S_ 1 := (fun x v => Host.reduce IntOp.andi x v reducesTo_S2x576x64_S_d0_1_2 h_S_) main_v38 main_c_18
  let main_v40 : IVec S_ 1 := andi main_v5 main_v11
  let main_v41 : IVec S_ 1 := andi main_v40 main_v17
  let main_v42 : IVec S_ 1 := andi main_v41 main_v23
  let main_v43 : IVec S_ 1 := andi main_v42 main_v29
  let main_v44 : IVec S_ 1 := andi main_v43 main_v33
  let main_v45 : IVec S_ 1 := andi main_v44 main_v39
  main_v45

def fn_part1 {F : FTy → Type} [FloatOps F] (main_arg2 : FVec F S2x576x64 .f32) (main_arg6 : FVec F S96x96 .f32) (main_arg7 : FVec F S96x96 .f32) (main_arg8 : IVec S2x576x64 32) (main_v5 : IVec S_ 1) (main_v11 : IVec S_ 1) (main_v13 : IVec S96x96 1) (main_v15 : IVec S96x96 1) : IVec S_ 1 :=
  let main_v16 : IVec S96x96 1 := andi main_v13 main_v15
  let main_c_6 : IVec S_ 1 := constantI S_ 1 1#1
  let main_v17 : IVec S_ 1 := (fun x v => Host.reduce IntOp.andi x v reducesTo_S96x96_S_d0_1 h_S_) main_v16 main_c_6
  let main_cst_7 : FVec F S_ .f32 := constant S_ .f32 0x7F800000#32
  let main_v18 : FVec F S96x96 .f32 := broadcastInDim S96x96 ![] bcast_S_S96x96 main_cst_7
  let main_v19 : IVec S96x96 1 := cmpf .olt main_arg6 main_v18
  let main_cst_8 : FVec F S_ .f32 := constant S_ .f32 0xFF800000#32
  let main_v20 : FVec F S96x96 .f32 := broadcastInDim S96x96 ![] bcast_S_S96x96 main_cst_8
  let main_v21 : IVec S96x96 1 := cmpf .ogt main_arg6 main_v20
  let main_v22 : IVec S96x96 1 := andi main_v19 main_v21
  let main_c_9 : IVec S_ 1 := constantI S_ 1 1#1
  let main_v23 : IVec S_ 1 := (fun x v => Host.reduce IntOp.andi x v reducesTo_S96x96_S_d0_1 h_S_) main_v22 main_c_9
  let main_cst_10 : FVec F S_ .f32 := constant S_ .f32 0x7F800000#32
  let main_v24 : FVec F S96x96 .f32 := broadcastInDim S96x96 ![] bcast_S_S96x96 main_cst_10
  let main_v25 : IVec S96x96 1 := cmpf .olt main_arg7 main_v24
  let main_cst_11 : FVec F S_ .f32 := constant S_ .f32 0xFF800000#32
  let main_v26 : FVec F S96x96 .f32 := broadcastInDim S96x96 ![] bcast_S_S96x96 main_cst_11
  let main_v27 : IVec S96x96 1 := cmpf .ogt main_arg7 main_v26
  let main_v28 : IVec S96x96 1 := andi main_v25 main_v27
  let main_c_12 : IVec S_ 1 := constantI S_ 1 1#1
  let main_v29 : IVec S_ 1 := (fun x v => Host.reduce IntOp.andi x v reducesTo_S96x96_S_d0_1 h_S_) main_v28 main_c_12
  let main_cst_13 : FVec F S_ .f32 := constant S_ .f32 0x00000000#32
  let main_v30 : FVec F S2x576x64 .f32 := broadcastInDim S2x576x64 ![] bcast_S_S2x576x64 main_cst_13
  let main_v31 : IVec S2x576x64 1 := cmpf .ogt main_arg2 main_v30
  fn_part2 (F := F) main_arg8 main_v5 main_v11 main_v17 main_v23 main_v29 main_v31

def fn {F : FTy → Type} [FloatOps F] (main_arg0 : FVec F S2x96x384x384 .f32) (main_arg1 : FVec F S2x576x64 .f32) (main_arg2 : FVec F S2x576x64 .f32) (main_arg3 : FVec F S96 .f32) (main_arg4 : FVec F S96 .f32) (main_arg5 : FVec F S96x96 .f32) (main_arg6 : FVec F S96x96 .f32) (main_arg7 : FVec F S96x96 .f32) (main_arg8 : IVec S2x576x64 32) (main_arg9 : IVec S2x147456 32) (main_arg10 : IVec S_ 32) : IVec S_ 1 :=
  let main_cst : FVec F S_ .f32 := constant S_ .f32 0x7F800000#32
  let main_v0 : FVec F S96 .f32 := broadcastInDim S96 ![] bcast_S_S96 main_cst
  let main_v1 : IVec S96 1 := cmpf .olt main_arg3 main_v0
  let main_cst_0 : FVec F S_ .f32 := constant S_ .f32 0xFF800000#32
  let main_v2 : FVec F S96 .f32 := broadcastInDim S96 ![] bcast_S_S96 main_cst_0
  let main_v3 : IVec S96 1 := cmpf .ogt main_arg3 main_v2
  let main_v4 : IVec S96 1 := andi main_v1 main_v3
  let main_c : IVec S_ 1 := constantI S_ 1 1#1
  let main_v5 : IVec S_ 1 := (fun x v => Host.reduce IntOp.andi x v reducesTo_S96_S_d0 h_S_) main_v4 main_c
  let main_cst_1 : FVec F S_ .f32 := constant S_ .f32 0x7F800000#32
  let main_v6 : FVec F S96 .f32 := broadcastInDim S96 ![] bcast_S_S96 main_cst_1
  let main_v7 : IVec S96 1 := cmpf .olt main_arg4 main_v6
  let main_cst_2 : FVec F S_ .f32 := constant S_ .f32 0xFF800000#32
  let main_v8 : FVec F S96 .f32 := broadcastInDim S96 ![] bcast_S_S96 main_cst_2
  let main_v9 : IVec S96 1 := cmpf .ogt main_arg4 main_v8
  let main_v10 : IVec S96 1 := andi main_v7 main_v9
  let main_c_3 : IVec S_ 1 := constantI S_ 1 1#1
  let main_v11 : IVec S_ 1 := (fun x v => Host.reduce IntOp.andi x v reducesTo_S96_S_d0 h_S_) main_v10 main_c_3
  let main_cst_4 : FVec F S_ .f32 := constant S_ .f32 0x7F800000#32
  let main_v12 : FVec F S96x96 .f32 := broadcastInDim S96x96 ![] bcast_S_S96x96 main_cst_4
  let main_v13 : IVec S96x96 1 := cmpf .olt main_arg5 main_v12
  let main_cst_5 : FVec F S_ .f32 := constant S_ .f32 0xFF800000#32
  let main_v14 : FVec F S96x96 .f32 := broadcastInDim S96x96 ![] bcast_S_S96x96 main_cst_5
  let main_v15 : IVec S96x96 1 := cmpf .ogt main_arg5 main_v14
  fn_part1 (F := F) main_arg2 main_arg6 main_arg7 main_arg8 main_v5 main_v11 main_v13 main_v15
-- ==== Kernel.lean ====
abbrev S2x96x384x384 : Shape := ⟨4, ![2, 96, 384, 384]⟩
abbrev S2x576x64 : Shape := ⟨3, ![2, 576, 64]⟩
abbrev S96 : Shape := ⟨1, ![96]⟩
abbrev S96x96 : Shape := ⟨2, ![96, 96]⟩
abbrev S2x147456 : Shape := ⟨2, ![2, 147456]⟩
abbrev S_ : Shape := ⟨0, ![]⟩
abbrev S1x96 : Shape := ⟨2, ![1, 96]⟩
abbrev S8x96 : Shape := ⟨2, ![8, 96]⟩
abbrev S1 : Shape := ⟨1, ![1]⟩
abbrev S2x96x147456 : Shape := ⟨3, ![2, 96, 147456]⟩
abbrev S2x147456x96 : Shape := ⟨3, ![2, 147456, 96]⟩
abbrev S1x96x2048 : Shape := ⟨3, ![1, 96, 2048]⟩
abbrev S1x2048x96 : Shape := ⟨3, ![1, 2048, 96]⟩
abbrev S96x2048 : Shape := ⟨2, ![96, 2048]⟩
abbrev S2048 : Shape := ⟨1, ![2048]⟩
abbrev S1x2048 : Shape := ⟨2, ![1, 2048]⟩
abbrev S2048x96 : Shape := ⟨2, ![2048, 96]⟩
abbrev S2x36864 : Shape := ⟨2, ![2, 36864]⟩
abbrev S2 : Shape := ⟨1, ![2]⟩
abbrev S2x1 : Shape := ⟨2, ![2, 1]⟩
abbrev S73728 : Shape := ⟨1, ![73728]⟩
abbrev S294912x96 : Shape := ⟨2, ![294912, 96]⟩
abbrev S73728x1 : Shape := ⟨2, ![73728, 1]⟩
abbrev S1x1 : Shape := ⟨2, ![1, 1]⟩
abbrev S73728x96 : Shape := ⟨2, ![73728, 96]⟩
abbrev S288x1x256 : Shape := ⟨3, ![288, 1, 256]⟩
abbrev S256x96 : Shape := ⟨2, ![256, 96]⟩
abbrev S1x1x256 : Shape := ⟨3, ![1, 1, 256]⟩
abbrev S96x256 : Shape := ⟨2, ![96, 256]⟩
abbrev S96x1 : Shape := ⟨2, ![96, 1]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S256x32 : Shape := ⟨2, ![256, 32]⟩
abbrev S32x256 : Shape := ⟨2, ![32, 256]⟩
abbrev S294912 : Shape := ⟨1, ![294912]⟩
abbrev S2x147456x1 : Shape := ⟨3, ![2, 147456, 1]⟩
abbrev S1x2048x1 : Shape := ⟨3, ![1, 2048, 1]⟩
abbrev S2048x1 : Shape := ⟨2, ![2048, 1]⟩

abbrev nBuf : Space → Nat
  | .hbm => 89
  | .vmem => 26
  | .smem => 0
  | _ => 0

abbrev bufTy : (tb : Table) → Fin (tcTables nBuf tb) → BufTy
  | .hbm, ⟨0, _⟩ => ⟨S2x96x384x384, .f32⟩
  | .hbm, ⟨1, _⟩ => ⟨S2x576x64, .f32⟩
  | .hbm, ⟨2, _⟩ => ⟨S2x576x64, .f32⟩
  | .hbm, ⟨3, _⟩ => ⟨S96, .f32⟩
  | .hbm, ⟨4, _⟩ => ⟨S96, .f32⟩
  | .hbm, ⟨5, _⟩ => ⟨S96x96, .f32⟩
  | .hbm, ⟨6, _⟩ => ⟨S96x96, .f32⟩
  | .hbm, ⟨7, _⟩ => ⟨S96x96, .f32⟩
  | .hbm, ⟨8, _⟩ => ⟨S2x576x64, .i32⟩
  | .hbm, ⟨9, _⟩ => ⟨S2x147456, .i32⟩
  | .hbm, ⟨10, _⟩ => ⟨S_, .i32⟩
  | .hbm, ⟨11, _⟩ => ⟨S1x96, .f32⟩
  | .hbm, ⟨12, _⟩ => ⟨S96x96, .f32⟩
  | .hbm, ⟨13, _⟩ => ⟨S96x96, .f32⟩
  | .hbm, ⟨14, _⟩ => ⟨S96x96, .f32⟩
  | .hbm, ⟨15, _⟩ => ⟨S1x96, .f32⟩
  | .hbm, ⟨16, _⟩ => ⟨S96x96, .f32⟩
  | .hbm, ⟨17, _⟩ => ⟨S96x96, .f32⟩
  | .hbm, ⟨18, _⟩ => ⟨S1x96, .f32⟩
  | .hbm, ⟨19, _⟩ => ⟨S96x96, .f32⟩
  | .hbm, ⟨20, _⟩ => ⟨S96x96, .f32⟩
  | .hbm, ⟨21, _⟩ => ⟨S96x96, .f32⟩
  | .hbm, ⟨22, _⟩ => ⟨S96, .f32⟩
  | .hbm, ⟨23, _⟩ => ⟨S96, .f32⟩
  | .hbm, ⟨24, _⟩ => ⟨S96, .f32⟩
  | .hbm, ⟨25, _⟩ => ⟨S_, .f32⟩
  | .hbm, ⟨26, _⟩ => ⟨S8x96, .f32⟩
  | .hbm, ⟨27, _⟩ => ⟨S_, .i32⟩
  | .hbm, ⟨28, _⟩ => ⟨S1, .i32⟩
  | .hbm, ⟨29, _⟩ => ⟨S8x96, .f32⟩
  | .hbm, ⟨30, _⟩ => ⟨S_, .i32⟩
  | .hbm, ⟨31, _⟩ => ⟨S1, .i32⟩
  | .hbm, ⟨32, _⟩ => ⟨S8x96, .f32⟩
  | .hbm, ⟨33, _⟩ => ⟨S_, .i32⟩
  | .hbm, ⟨34, _⟩ => ⟨S1, .i32⟩
  | .hbm, ⟨35, _⟩ => ⟨S8x96, .f32⟩
  | .hbm, ⟨36, _⟩ => ⟨S2x96x147456, .f32⟩
  | .hbm, ⟨37, _⟩ => ⟨S2x147456x96, .f32⟩
  | .hbm, ⟨38, _⟩ => ⟨S2x36864, .i32⟩
  | .hbm, ⟨39, _⟩ => ⟨S2, .i32⟩
  | .hbm, ⟨40, _⟩ => ⟨S_, .i32⟩
  | .hbm, ⟨41, _⟩ => ⟨S2, .i32⟩
  | .hbm, ⟨42, _⟩ => ⟨S2, .i32⟩
  | .hbm, ⟨43, _⟩ => ⟨S2x1, .i32⟩
  | .hbm, ⟨44, _⟩ => ⟨S2x36864, .i32⟩
  | .hbm, ⟨45, _⟩ => ⟨S2x36864, .i32⟩
  | .hbm, ⟨46, _⟩ => ⟨S73728, .i32⟩
  | .hbm, ⟨47, _⟩ => ⟨S294912x96, .f32⟩
  | .hbm, ⟨48, _⟩ => ⟨S_, .i32⟩
  | .hbm, ⟨49, _⟩ => ⟨S73728, .i32⟩
  | .hbm, ⟨50, _⟩ => ⟨S73728, .i1⟩
  | .hbm, ⟨51, _⟩ => ⟨S_, .i32⟩
  | .hbm, ⟨52, _⟩ => ⟨S73728, .i32⟩
  | .hbm, ⟨53, _⟩ => ⟨S73728, .i32⟩
  | .hbm, ⟨54, _⟩ => ⟨S73728, .i32⟩
  | .hbm, ⟨55, _⟩ => ⟨S73728x1, .i32⟩
  | .hbm, ⟨56, _⟩ => ⟨S1, .i32⟩
  | .hbm, ⟨57, _⟩ => ⟨S_, .i32⟩
  | .hbm, ⟨58, _⟩ => ⟨S73728x1, .i32⟩
  | .hbm, ⟨59, _⟩ => ⟨S73728x1, .i1⟩
  | .hbm, ⟨60, _⟩ => ⟨S1x1, .i32⟩
  | .hbm, ⟨61, _⟩ => ⟨S73728x1, .i32⟩
  | .hbm, ⟨62, _⟩ => ⟨S73728x1, .i1⟩
  | .hbm, ⟨63, _⟩ => ⟨S73728x1, .i1⟩
  | .hbm, ⟨64, _⟩ => ⟨S_, .i1⟩
  | .hbm, ⟨65, _⟩ => ⟨S73728, .i1⟩
  | .hbm, ⟨66, _⟩ => ⟨S73728x96, .f32⟩
  | .hbm, ⟨67, _⟩ => ⟨S73728x96, .i1⟩
  | .hbm, ⟨68, _⟩ => ⟨S_, .f32⟩
  | .hbm, ⟨69, _⟩ => ⟨S73728x96, .f32⟩
  | .hbm, ⟨70, _⟩ => ⟨S73728x96, .f32⟩
  | .hbm, ⟨71, _⟩ => ⟨S288x1x256, .f32⟩
  | .hbm, ⟨72, _⟩ => ⟨S288x1x256, .f32⟩
  | .hbm, ⟨73, _⟩ => ⟨S73728x96, .f32⟩
  | .hbm, ⟨74, _⟩ => ⟨S_, .f32⟩
  | .hbm, ⟨75, _⟩ => ⟨S294912x96, .f32⟩
  | .hbm, ⟨76, _⟩ => ⟨S73728x1, .i32⟩
  | .hbm, ⟨77, _⟩ => ⟨S294912x96, .f32⟩
  | .hbm, ⟨78, _⟩ => ⟨S_, .f32⟩
  | .hbm, ⟨79, _⟩ => ⟨S73728, .f32⟩
  | .hbm, ⟨80, _⟩ => ⟨S_, .f32⟩
  | .hbm, ⟨81, _⟩ => ⟨S294912, .f32⟩
  | .hbm, ⟨82, _⟩ => ⟨S73728x1, .i32⟩
  | .hbm, ⟨83, _⟩ => ⟨S294912, .f32⟩
  | .hbm, ⟨84, _⟩ => ⟨S2x147456x96, .f32⟩
  | .hbm, ⟨85, _⟩ => ⟨S2x147456x1, .f32⟩
  | .hbm, ⟨86, _⟩ => ⟨S1x96, .f32⟩
  | .hbm, ⟨87, _⟩ => ⟨S2x96x147456, .f32⟩
  | .hbm, ⟨88, _⟩ => ⟨S2x96x384x384, .f32⟩
  | .local _ .vmem, ⟨0, _⟩ => ⟨S1x96x2048, .f32⟩
  | .local _ .vmem, ⟨1, _⟩ => ⟨S1x96x2048, .f32⟩
  | .local _ .vmem, ⟨2, _⟩ => ⟨S1x2048x96, .f32⟩
  | .local _ .vmem, ⟨3, _⟩ => ⟨S1x2048x96, .f32⟩
  | .local _ .vmem, ⟨4, _⟩ => ⟨S256x96, .f32⟩
  | .local _ .vmem, ⟨5, _⟩ => ⟨S256x96, .f32⟩
  | .local _ .vmem, ⟨6, _⟩ => ⟨S1x1x256, .f32⟩
  | .local _ .vmem, ⟨7, _⟩ => ⟨S1x1x256, .f32⟩
  | .local _ .vmem, ⟨8, _⟩ => ⟨S1x1x256, .f32⟩
  | .local _ .vmem, ⟨9, _⟩ => ⟨S1x1x256, .f32⟩
  | .local _ .vmem, ⟨10, _⟩ => ⟨S96x96, .f32⟩
  | .local _ .vmem, ⟨11, _⟩ => ⟨S96x96, .f32⟩
  | .local _ .vmem, ⟨12, _⟩ => ⟨S96x96, .f32⟩
  | .local _ .vmem, ⟨13, _⟩ => ⟨S8x96, .f32⟩
  | .local _ .vmem, ⟨14, _⟩ => ⟨S256x96, .f32⟩
  | .local _ .vmem, ⟨15, _⟩ => ⟨S256x96, .f32⟩
  | .local _ .vmem, ⟨16, _⟩ => ⟨S1x2048x96, .f32⟩
  | .local _ .vmem, ⟨17, _⟩ => ⟨S1x2048x96, .f32⟩
  | .local _ .vmem, ⟨18, _⟩ => ⟨S1x2048x96, .f32⟩
  | .local _ .vmem, ⟨19, _⟩ => ⟨S1x2048x96, .f32⟩
  | .local _ .vmem, ⟨20, _⟩ => ⟨S1x2048x1, .f32⟩
  | .local _ .vmem, ⟨21, _⟩ => ⟨S1x2048x1, .f32⟩
  | .local _ .vmem, ⟨22, _⟩ => ⟨S96x96, .f32⟩
  | .local _ .vmem, ⟨23, _⟩ => ⟨S1x96, .f32⟩
  | .local _ .vmem, ⟨24, _⟩ => ⟨S1x96x2048, .f32⟩
  | .local _ .vmem, ⟨25, _⟩ => ⟨S1x96x2048, .f32⟩
  | _, _ => ⟨S2x96x384x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_0 : Ref sig .tc := ⟨.hbm, 30, rfl⟩
abbrev main_v17 : Ref sig .tc := ⟨.hbm, 31, rfl⟩
abbrev main_v18 : Ref sig .tc := ⟨.hbm, 32, rfl⟩
abbrev main_c_1 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_2 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_call0_c : Ref sig .tc := ⟨.hbm, 48, rfl⟩
abbrev main_call0_v0 : Ref sig .tc := ⟨.hbm, 49, rfl⟩
abbrev main_call0_v1 : Ref sig .tc := ⟨.hbm, 50, rfl⟩
abbrev main_call0_c_0 : Ref sig .tc := ⟨.hbm, 51, rfl⟩
abbrev main_call0_v2 : Ref sig .tc := ⟨.hbm, 52, rfl⟩
abbrev main_call0_v3 : Ref sig .tc := ⟨.hbm, 53, rfl⟩
abbrev main_call0_v4 : Ref sig .tc := ⟨.hbm, 54, rfl⟩
abbrev main_call0_v5 : Ref sig .tc := ⟨.hbm, 55, rfl⟩
abbrev main_call0_c_1 : Ref sig .tc := ⟨.hbm, 56, rfl⟩
abbrev main_call0_c_2 : Ref sig .tc := ⟨.hbm, 57, rfl⟩
abbrev main_call0_v6 : Ref sig .tc := ⟨.hbm, 58, rfl⟩
abbrev main_call0_v7 : Ref sig .tc := ⟨.hbm, 59, rfl⟩
abbrev main_call0_v8 : Ref sig .tc := ⟨.hbm, 60, rfl⟩
abbrev main_call0_v9 : Ref sig .tc := ⟨.hbm, 61, rfl⟩
abbrev main_call0_v10 : Ref sig .tc := ⟨.hbm, 62, rfl⟩
abbrev main_call0_v11 : Ref sig .tc := ⟨.hbm, 63, rfl⟩
abbrev main_call0_c_3 : Ref sig .tc := ⟨.hbm, 64, rfl⟩
abbrev main_call0_v12 : Ref sig .tc := ⟨.hbm, 65, rfl⟩
abbrev main_call0_v13 : Ref sig .tc := ⟨.hbm, 66, rfl⟩
abbrev main_call0_v14 : Ref sig .tc := ⟨.hbm, 67, rfl⟩
abbrev main_call0_cst : Ref sig .tc := ⟨.hbm, 68, rfl⟩
abbrev main_call0_v15 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_cst_3 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_cst_4 : Ref sig .tc := ⟨.hbm, 78, rfl⟩
abbrev main_v39 : Ref sig .tc := ⟨.hbm, 79, rfl⟩
abbrev main_cst_5 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg7_0 : Ref sig .tc := ⟨.vmem, 14, rfl⟩
abbrev cc1_stg7_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg5_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem7_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem4_0 : DmaSem sig := 23
abbrev cc2_sem5_0 : DmaSem sig := 24
abbrev cc2_sem5_1 : DmaSem sig := 25

abbrev nD : Nat := 1
abbrev τ : Topo := Topo.v7x

variable {F : FTy → Type} [FloatOps F]

abbrev grid0 : Pipeline.Grid := ⟨2, ![2, 72], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x96x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x96 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev grid1 : Pipeline.Grid := ⟨1, ![288], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x96 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S96x96 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S96x96 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S96x96 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S8x96 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S256x96 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨2, ![2, 72], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage2_0 : Fin 2 → Memref sig .tc .vmem S1x2048x96 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x2048x96 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x2048x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 1 → Memref sig .tc .vmem S96x96 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S1x96 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 2 → Memref sig .tc .vmem S1x96x2048 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]
-- ==== KernelIdeal.lean ====
variable {F : FTy → Type} [FloatOps F] [Named F]
def κ : String → Option EReal := fun
  | "mask" => some ⊥
  | "scale" => some ((-((Real.sqrt 32)⁻¹) : ℝ) : EReal)
  | _ => none
-- ==== ReferenceIdeal.lean ====
abbrev S2x96x384x384 : Shape := ⟨4, ![2, 96, 384, 384]⟩
abbrev S2x576x64 : Shape := ⟨3, ![2, 576, 64]⟩
abbrev S96 : Shape := ⟨1, ![96]⟩
abbrev S96x96 : Shape := ⟨2, ![96, 96]⟩
abbrev S2x147456 : Shape := ⟨2, ![2, 147456]⟩
abbrev S_ : Shape := ⟨0, ![]⟩
abbrev S2x384x384 : Shape := ⟨3, ![2, 384, 384]⟩
abbrev S2x1x384x384 : Shape := ⟨4, ![2, 1, 384, 384]⟩
abbrev S1x96x1x1 : Shape := ⟨4, ![1, 96, 1, 1]⟩
abbrev S2x384x384x96 : Shape := ⟨4, ![2, 384, 384, 96]⟩
abbrev S2x96x147456 : Shape := ⟨3, ![2, 96, 147456]⟩
abbrev S2x36864 : Shape := ⟨2, ![2, 36864]⟩
abbrev S2x36864x1 : Shape := ⟨3, ![2, 36864, 1]⟩
abbrev S1 : Shape := ⟨1, ![1]⟩
abbrev S1x1x1 : Shape := ⟨3, ![1, 1, 1]⟩
abbrev S2x96x36864 : Shape := ⟨3, ![2, 96, 36864]⟩
abbrev S2x96x576x64 : Shape := ⟨4, ![2, 96, 576, 64]⟩
abbrev S2x3x32x576x64 : Shape := ⟨5, ![2, 3, 32, 576, 64]⟩
abbrev S2x576x3x64x32 : Shape := ⟨5, ![2, 576, 3, 64, 32]⟩
abbrev S2x576x3x64 : Shape := ⟨4, ![2, 576, 3, 64]⟩
abbrev S2x576x3x64x1 : Shape := ⟨5, ![2, 576, 3, 64, 1]⟩
abbrev S2x576x3x1x64 : Shape := ⟨5, ![2, 576, 3, 1, 64]⟩
abbrev S2x576x3x64x64 : Shape := ⟨5, ![2, 576, 3, 64, 64]⟩
abbrev S2x576x1x1x64 : Shape := ⟨5, ![2, 576, 1, 1, 64]⟩
abbrev S2x576x1x64x1 : Shape := ⟨5, ![2, 576, 1, 64, 1]⟩
abbrev S1x96x36864 : Shape := ⟨3, ![1, 96, 36864]⟩
abbrev S96x36864 : Shape := ⟨2, ![96, 36864]⟩
abbrev S1x36864 : Shape := ⟨2, ![1, 36864]⟩
abbrev S36864 : Shape := ⟨1, ![36864]⟩
abbrev S36864x96 : Shape := ⟨2, ![36864, 96]⟩
abbrev S147456x96 : Shape := ⟨2, ![147456, 96]⟩
abbrev S36864x1 : Shape := ⟨2, ![36864, 1]⟩
abbrev S96x147456 : Shape := ⟨2, ![96, 147456]⟩
abbrev S147456 : Shape := ⟨1, ![147456]⟩
abbrev S1x96x147456 : Shape := ⟨3, ![1, 96, 147456]⟩
abbrev S1x147456 : Shape := ⟨2, ![1, 147456]⟩
abbrev S2x1x147456 : Shape := ⟨3, ![2, 1, 147456]⟩

abbrev nBuf : Space → Nat
  | .hbm => 242
  | .vmem => 0
  | .smem => 0
  | _ => 0

abbrev hbmTy0_0 (i : Nat) : BufTy := match i % 128 with
  | 0 => ⟨S2x96x384x384, .f32⟩
  | 1 => ⟨S2x576x64, .f32⟩
  | 2 => ⟨S2x576x64, .f32⟩
  | 3 => ⟨S96, .f32⟩
  | 4 => ⟨S96, .f32⟩
  | 5 => ⟨S96x96, .f32⟩
  | 6 => ⟨S96x96, .f32⟩
  | 7 => ⟨S96x96, .f32⟩
  | 8 => ⟨S2x576x64, .i32⟩
  | 9 => ⟨S2x147456, .i32⟩
  | 10 => ⟨S_, .i32⟩
  | 11 => ⟨S_, .f32⟩
  | 12 => ⟨S2x384x384, .f32⟩
  | 13 => ⟨S2x1x384x384, .f32⟩
  | 14 => ⟨S_, .f32⟩
  | 15 => ⟨S2x1x384x384, .f32⟩
  | 16 => ⟨S2x1x384x384, .f32⟩
  | 17 => ⟨S2x96x384x384, .f32⟩
  | 18 => ⟨S2x96x384x384, .f32⟩
  | 19 => ⟨S2x96x384x384, .f32⟩
  | 20 => ⟨S_, .f32⟩
  | 21 => ⟨S2x384x384, .f32⟩
  | 22 => ⟨S2x1x384x384, .f32⟩
  | 23 => ⟨S_, .f32⟩
  | 24 => ⟨S2x1x384x384, .f32⟩
  | 25 => ⟨S2x1x384x384, .f32⟩
  | 26 => ⟨S2x96x384x384, .f32⟩
  | 27 => ⟨S2x96x384x384, .f32⟩
  | 28 => ⟨S_, .f32⟩
  | 29 => ⟨S2x1x384x384, .f32⟩
  | 30 => ⟨S2x1x384x384, .f32⟩
  | 31 => ⟨S2x1x384x384, .f32⟩
  | 32 => ⟨S2x96x384x384, .f32⟩
  | 33 => ⟨S2x96x384x384, .f32⟩
  | 34 => ⟨S1x96x1x1, .f32⟩
  | 35 => ⟨S2x96x384x384, .f32⟩
  | 36 => ⟨S2x96x384x384, .f32⟩
  | 37 => ⟨S1x96x1x1, .f32⟩
  | 38 => ⟨S2x96x384x384, .f32⟩
  | 39 => ⟨S2x96x384x384, .f32⟩
  | 40 => ⟨S2x384x384x96, .f32⟩
  | 41 => ⟨S2x96x384x384, .f32⟩
  | 42 => ⟨S2x384x384x96, .f32⟩
  | 43 => ⟨S2x96x384x384, .f32⟩
  | 44 => ⟨S2x384x384x96, .f32⟩
  | 45 => ⟨S2x96x384x384, .f32⟩
  | 46 => ⟨S2x96x147456, .f32⟩
  | 47 => ⟨S2x36864, .i32⟩
  | 48 => ⟨S_, .i32⟩
  | 49 => ⟨S2x36864, .i32⟩
  | 50 => ⟨S2x36864, .i1⟩
  | 51 => ⟨S_, .i32⟩
  | 52 => ⟨S2x36864, .i32⟩
  | 53 => ⟨S2x36864, .i32⟩
  | 54 => ⟨S2x36864, .i32⟩
  | 55 => ⟨S2x36864x1, .i32⟩
  | 56 => ⟨S1, .i32⟩
  | 57 => ⟨S_, .i32⟩
  | 58 => ⟨S2x36864x1, .i32⟩
  | 59 => ⟨S2x36864x1, .i1⟩
  | 60 => ⟨S1x1x1, .i32⟩
  | 61 => ⟨S2x36864x1, .i32⟩
  | 62 => ⟨S2x36864x1, .i1⟩
  | 63 => ⟨S2x36864x1, .i1⟩
  | 64 => ⟨S_, .i1⟩
  | 65 => ⟨S2x36864, .i1⟩
  | 66 => ⟨S2x96x36864, .f32⟩
  | 67 => ⟨S2x96x36864, .i1⟩
  | 68 => ⟨S_, .f32⟩
  | 69 => ⟨S2x96x36864, .f32⟩
  | 70 => ⟨S2x96x36864, .f32⟩
  | 71 => ⟨S2x96x576x64, .f32⟩
  | 72 => ⟨S2x3x32x576x64, .f32⟩
  | 73 => ⟨S2x576x3x64x32, .f32⟩
  | 74 => ⟨S2x96x147456, .f32⟩
  | 75 => ⟨S2x36864, .i32⟩
  | 76 => ⟨S_, .i32⟩
  | 77 => ⟨S2x36864, .i32⟩
  | 78 => ⟨S2x36864, .i1⟩
  | 79 => ⟨S_, .i32⟩
  | 80 => ⟨S2x36864, .i32⟩
  | 81 => ⟨S2x36864, .i32⟩
  | 82 => ⟨S2x36864, .i32⟩
  | 83 => ⟨S2x36864x1, .i32⟩
  | 84 => ⟨S1, .i32⟩
  | 85 => ⟨S_, .i32⟩
  | 86 => ⟨S2x36864x1, .i32⟩
  | 87 => ⟨S2x36864x1, .i1⟩
  | 88 => ⟨S1x1x1, .i32⟩
  | 89 => ⟨S2x36864x1, .i32⟩
  | 90 => ⟨S2x36864x1, .i1⟩
  | 91 => ⟨S2x36864x1, .i1⟩
  | 92 => ⟨S_, .i1⟩
  | 93 => ⟨S2x36864, .i1⟩
  | 94 => ⟨S2x96x36864, .f32⟩
  | 95 => ⟨S2x96x36864, .i1⟩
  | 96 => ⟨S_, .f32⟩
  | 97 => ⟨S2x96x36864, .f32⟩
  | 98 => ⟨S2x96x36864, .f32⟩
  | 99 => ⟨S2x96x576x64, .f32⟩
  | 100 => ⟨S2x3x32x576x64, .f32⟩
  | 101 => ⟨S2x576x3x64x32, .f32⟩
  | 102 => ⟨S2x96x147456, .f32⟩
  | 103 => ⟨S2x36864, .i32⟩
  | 104 => ⟨S_, .i32⟩
  | 105 => ⟨S2x36864, .i32⟩
  | 106 => ⟨S2x36864, .i1⟩
  | 107 => ⟨S_, .i32⟩
  | 108 => ⟨S2x36864, .i32⟩
  | 109 => ⟨S2x36864, .i32⟩
  | 110 => ⟨S2x36864, .i32⟩
  | 111 => ⟨S2x36864x1, .i32⟩
  | 112 => ⟨S1, .i32⟩
  | 113 => ⟨S_, .i32⟩
  | 114 => ⟨S2x36864x1, .i32⟩
  | 115 => ⟨S2x36864x1, .i1⟩
  | 116 => ⟨S1x1x1, .i32⟩
  | 117 => ⟨S2x36864x1, .i32⟩
  | 118 => ⟨S2x36864x1, .i1⟩
  | 119 => ⟨S2x36864x1, .i1⟩
  | 120 => ⟨S_, .i1⟩
  | 121 => ⟨S2x36864, .i1⟩
  | 122 => ⟨S2x96x36864, .f32⟩
  | 123 => ⟨S2x96x36864, .i1⟩
  | 124 => ⟨S_, .f32⟩
  | 125 => ⟨S2x96x36864, .f32⟩
  | 126 => ⟨S2x96x36864, .f32⟩
  | 127 => ⟨S2x96x576x64, .f32⟩
  | _ => ⟨S2x96x384x384, .f32⟩

abbrev hbmTy0_1 (i : Nat) : BufTy := match i % 128 with
  | 0 => ⟨S2x3x32x576x64, .f32⟩
  | 1 => ⟨S2x576x3x64x32, .f32⟩
  | 2 => ⟨S2x576x3x64x32, .f32⟩
  | 3 => ⟨S_, .f32⟩
  | 4 => ⟨S2x576x3x64, .f32⟩
  | 5 => ⟨S2x576x3x64x1, .f32⟩
  | 6 => ⟨S2x576x3x64x32, .f32⟩
  | 7 => ⟨S_, .f32⟩
  | 8 => ⟨S2x576x3x64, .f32⟩
  | 9 => ⟨S2x576x3x1x64, .f32⟩
  | 10 => ⟨S2x576x3x64x64, .f32⟩
  | 11 => ⟨S2x576x3x64x64, .f32⟩
  | 12 => ⟨S2x576x3x64x64, .f32⟩
  | 13 => ⟨S2x576x3x64x64, .f32⟩
  | 14 => ⟨S_, .f32⟩
  | 15 => ⟨S2x576x3x64x64, .f32⟩
  | 16 => ⟨S2x576x3x64x64, .f32⟩
  | 17 => ⟨S2x576x3x64x64, .f32⟩
  | 18 => ⟨S_, .f32⟩
  | 19 => ⟨S2x576x3x64x64, .f32⟩
  | 20 => ⟨S2x576x3x64x64, .f32⟩
  | 21 => ⟨S2x576x3x64x64, .f32⟩
  | 22 => ⟨S2x576x3x64x64, .f32⟩
  | 23 => ⟨S_, .f32⟩
  | 24 => ⟨S_, .f32⟩
  | 25 => ⟨S2x576x3x64x64, .f32⟩
  | 26 => ⟨S2x576x3x64x64, .f32⟩
  | 27 => ⟨S2x576x1x1x64, .f32⟩
  | 28 => ⟨S_, .f32⟩
  | 29 => ⟨S2x576x1x1x64, .f32⟩
  | 30 => ⟨S2x576x1x1x64, .i1⟩
  | 31 => ⟨S_, .f32⟩
  | 32 => ⟨S_, .f32⟩
  | 33 => ⟨S2x576x3x64x64, .i1⟩
  | 34 => ⟨S2x576x3x64x64, .f32⟩
  | 35 => ⟨S2x576x3x64x64, .f32⟩
  | 36 => ⟨S_, .f32⟩
  | 37 => ⟨S2x576x3x64, .f32⟩
  | 38 => ⟨S_, .f32⟩
  | 39 => ⟨S2x576x3x64, .f32⟩
  | 40 => ⟨S2x576x3x64, .f32⟩
  | 41 => ⟨S2x576x3x64x1, .f32⟩
  | 42 => ⟨S2x576x3x64x64, .f32⟩
  | 43 => ⟨S2x576x3x64x64, .f32⟩
  | 44 => ⟨S2x576x3x64x64, .f32⟩
  | 45 => ⟨S_, .f32⟩
  | 46 => ⟨S2x576x3x64, .f32⟩
  | 47 => ⟨S2x576x3x64x1, .f32⟩
  | 48 => ⟨S2x576x3x64x64, .f32⟩
  | 49 => ⟨S2x576x3x64x64, .f32⟩
  | 50 => ⟨S2x576x1x64x1, .f32⟩
  | 51 => ⟨S2x576x3x64x32, .f32⟩
  | 52 => ⟨S2x576x3x64x32, .f32⟩
  | 53 => ⟨S2x576x3x64x32, .f32⟩
  | 54 => ⟨S2x576x3x64x32, .f32⟩
  | 55 => ⟨S2x3x32x576x64, .f32⟩
  | 56 => ⟨S2x96x36864, .f32⟩
  | 57 => ⟨S2x36864, .i32⟩
  | 58 => ⟨S1x96x36864, .f32⟩
  | 59 => ⟨S96x36864, .f32⟩
  | 60 => ⟨S1x36864, .i32⟩
  | 61 => ⟨S36864, .i32⟩
  | 62 => ⟨S36864x96, .f32⟩
  | 63 => ⟨S_, .f32⟩
  | 64 => ⟨S147456x96, .f32⟩
  | 65 => ⟨S36864x1, .i32⟩
  | 66 => ⟨S147456x96, .f32⟩
  | 67 => ⟨S96x147456, .f32⟩
  | 68 => ⟨S_, .f32⟩
  | 69 => ⟨S36864, .f32⟩
  | 70 => ⟨S_, .f32⟩
  | 71 => ⟨S147456, .f32⟩
  | 72 => ⟨S36864x1, .i32⟩
  | 73 => ⟨S147456, .f32⟩
  | 74 => ⟨S1x96x36864, .f32⟩
  | 75 => ⟨S96x36864, .f32⟩
  | 76 => ⟨S1x36864, .i32⟩
  | 77 => ⟨S36864, .i32⟩
  | 78 => ⟨S36864x96, .f32⟩
  | 79 => ⟨S_, .f32⟩
  | 80 => ⟨S147456x96, .f32⟩
  | 81 => ⟨S36864x1, .i32⟩
  | 82 => ⟨S147456x96, .f32⟩
  | 83 => ⟨S96x147456, .f32⟩
  | 84 => ⟨S_, .f32⟩
  | 85 => ⟨S36864, .f32⟩
  | 86 => ⟨S_, .f32⟩
  | 87 => ⟨S147456, .f32⟩
  | 88 => ⟨S36864x1, .i32⟩
  | 89 => ⟨S147456, .f32⟩
  | 90 => ⟨S1x96x147456, .f32⟩
  | 91 => ⟨S1x96x147456, .f32⟩
  | 92 => ⟨S2x96x147456, .f32⟩
  | 93 => ⟨S1x147456, .f32⟩
  | 94 => ⟨S1x147456, .f32⟩
  | 95 => ⟨S2x147456, .f32⟩
  | 96 => ⟨S2x1x147456, .f32⟩
  | 97 => ⟨S2x96x147456, .f32⟩
  | 98 => ⟨S_, .f32⟩
  | 99 => ⟨S2x96x147456, .f32⟩
  | 100 => ⟨S2x96x147456, .f32⟩
  | 101 => ⟨S2x96x147456, .f32⟩
  | 102 => ⟨S2x96x384x384, .f32⟩
  | 103 => ⟨S2x96x384x384, .f32⟩
  | 104 => ⟨S_, .f32⟩
  | 105 => ⟨S2x96x384x384, .f32⟩
  | 106 => ⟨S2x96x384x384, .i1⟩
  | 107 => ⟨S2x96x384x384, .f32⟩
  | 108 => ⟨S2x96x384x384, .f32⟩
  | 109 => ⟨S_, .f32⟩
  | 110 => ⟨S2x96x384x384, .f32⟩
  | 111 => ⟨S2x96x384x384, .f32⟩
  | 112 => ⟨S2x96x384x384, .f32⟩
  | 113 => ⟨S2x96x384x384, .f32⟩
  | _ => ⟨S2x96x384x384, .f32⟩

abbrev hbmTy (i : Nat) : BufTy := match i / 128 with
  | 0 => hbmTy0_0 i
  | 1 => hbmTy0_1 i
  | _ => ⟨S2x96x384x384, .f32⟩

abbrev bufTy : (tb : Table) → Fin (tcTables nBuf tb) → BufTy
  | .hbm, ⟨i, _⟩ => hbmTy i
  | _, _ => ⟨S2x96x384x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_cst_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_v8 : Ref sig .tc := ⟨.hbm, 22, rfl⟩
abbrev main_cst_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_3 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_call0_c : Ref sig .tc := ⟨.hbm, 48, rfl⟩
abbrev main_call0_v0 : Ref sig .tc := ⟨.hbm, 49, rfl⟩
abbrev main_call0_v1 : Ref sig .tc := ⟨.hbm, 50, rfl⟩
abbrev main_call0_c_0 : Ref sig .tc := ⟨.hbm, 51, rfl⟩
abbrev main_call0_v2 : Ref sig .tc := ⟨.hbm, 52, rfl⟩
abbrev main_call0_v3 : Ref sig .tc := ⟨.hbm, 53, rfl⟩
abbrev main_call0_v4 : Ref sig .tc := ⟨.hbm, 54, rfl⟩
abbrev main_call0_v5 : Ref sig .tc := ⟨.hbm, 55, rfl⟩
abbrev main_call0_c_1 : Ref sig .tc := ⟨.hbm, 56, rfl⟩
abbrev main_call0_c_2 : Ref sig .tc := ⟨.hbm, 57, rfl⟩
abbrev main_call0_v6 : Ref sig .tc := ⟨.hbm, 58, rfl⟩
abbrev main_call0_v7 : Ref sig .tc := ⟨.hbm, 59, rfl⟩
abbrev main_call0_v8 : Ref sig .tc := ⟨.hbm, 60, rfl⟩
abbrev main_call0_v9 : Ref sig .tc := ⟨.hbm, 61, rfl⟩
abbrev main_call0_v10 : Ref sig .tc := ⟨.hbm, 62, rfl⟩
abbrev main_call0_v11 : Ref sig .tc := ⟨.hbm, 63, rfl⟩
abbrev main_call0_c_3 : Ref sig .tc := ⟨.hbm, 64, rfl⟩
abbrev main_call0_v12 : Ref sig .tc := ⟨.hbm, 65, rfl⟩
abbrev main_call0_v13 : Ref sig .tc := ⟨.hbm, 66, rfl⟩
abbrev main_call0_v14 : Ref sig .tc := ⟨.hbm, 67, rfl⟩
abbrev main_call0_cst : Ref sig .tc := ⟨.hbm, 68, rfl⟩
abbrev main_call0_v15 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_call1_c : Ref sig .tc := ⟨.hbm, 76, rfl⟩
abbrev main_call1_v0 : Ref sig .tc := ⟨.hbm, 77, rfl⟩
abbrev main_call1_v1 : Ref sig .tc := ⟨.hbm, 78, rfl⟩
abbrev main_call1_c_0 : Ref sig .tc := ⟨.hbm, 79, rfl⟩
abbrev main_call1_v2 : Ref sig .tc := ⟨.hbm, 80, rfl⟩
abbrev main_call1_v3 : Ref sig .tc := ⟨.hbm, 81, rfl⟩
abbrev main_call1_v4 : Ref sig .tc := ⟨.hbm, 82, rfl⟩
abbrev main_call1_v5 : Ref sig .tc := ⟨.hbm, 83, rfl⟩
abbrev main_call1_c_1 : Ref sig .tc := ⟨.hbm, 84, rfl⟩
abbrev main_call1_c_2 : Ref sig .tc := ⟨.hbm, 85, rfl⟩
abbrev main_call1_v6 : Ref sig .tc := ⟨.hbm, 86, rfl⟩
abbrev main_call1_v7 : Ref sig .tc := ⟨.hbm, 87, rfl⟩
abbrev main_call1_v8 : Ref sig .tc := ⟨.hbm, 88, rfl⟩
abbrev main_call1_v9 : Ref sig .tc := ⟨.hbm, 89, rfl⟩
abbrev main_call1_v10 : Ref sig .tc := ⟨.hbm, 90, rfl⟩
abbrev main_call1_v11 : Ref sig .tc := ⟨.hbm, 91, rfl⟩
abbrev main_call1_c_3 : Ref sig .tc := ⟨.hbm, 92, rfl⟩
abbrev main_call1_v12 : Ref sig .tc := ⟨.hbm, 93, rfl⟩
abbrev main_call1_v13 : Ref sig .tc := ⟨.hbm, 94, rfl⟩
abbrev main_call1_v14 : Ref sig .tc := ⟨.hbm, 95, rfl⟩
abbrev main_call1_cst : Ref sig .tc := ⟨.hbm, 96, rfl⟩
abbrev main_call1_v15 : Ref sig .tc := ⟨.hbm, 97, rfl⟩
abbrev main_v38 : Ref sig .tc := ⟨.hbm, 98, rfl⟩
abbrev main_v39 : Ref sig .tc := ⟨.hbm, 99, rfl⟩
abbrev main_v40 : Ref sig .tc := ⟨.hbm, 100, rfl⟩
abbrev main_v41 : Ref sig .tc := ⟨.hbm, 101, rfl⟩
abbrev main_v42 : Ref sig .tc := ⟨.hbm, 102, rfl⟩
abbrev main_v43 : Ref sig .tc := ⟨.hbm, 103, rfl⟩
abbrev main_call2_c : Ref sig .tc := ⟨.hbm, 104, rfl⟩
abbrev main_call2_v0 : Ref sig .tc := ⟨.hbm, 105, rfl⟩
abbrev main_call2_v1 : Ref sig .tc := ⟨.hbm, 106, rfl⟩
abbrev main_call2_c_0 : Ref sig .tc := ⟨.hbm, 107, rfl⟩
abbrev main_call2_v2 : Ref sig .tc := ⟨.hbm, 108, rfl⟩
abbrev main_call2_v3 : Ref sig .tc := ⟨.hbm, 109, rfl⟩
abbrev main_call2_v4 : Ref sig .tc := ⟨.hbm, 110, rfl⟩
abbrev main_call2_v5 : Ref sig .tc := ⟨.hbm, 111, rfl⟩
abbrev main_call2_c_1 : Ref sig .tc := ⟨.hbm, 112, rfl⟩
abbrev main_call2_c_2 : Ref sig .tc := ⟨.hbm, 113, rfl⟩
abbrev main_call2_v6 : Ref sig .tc := ⟨.hbm, 114, rfl⟩
abbrev main_call2_v7 : Ref sig .tc := ⟨.hbm, 115, rfl⟩
abbrev main_call2_v8 : Ref sig .tc := ⟨.hbm, 116, rfl⟩
abbrev main_call2_v9 : Ref sig .tc := ⟨.hbm, 117, rfl⟩
abbrev main_call2_v10 : Ref sig .tc := ⟨.hbm, 118, rfl⟩
abbrev main_call2_v11 : Ref sig .tc := ⟨.hbm, 119, rfl⟩
abbrev main_call2_c_3 : Ref sig .tc := ⟨.hbm, 120, rfl⟩
abbrev main_call2_v12 : Ref sig .tc := ⟨.hbm, 121, rfl⟩
abbrev main_call2_v13 : Ref sig .tc := ⟨.hbm, 122, rfl⟩
abbrev main_call2_v14 : Ref sig .tc := ⟨.hbm, 123, rfl⟩
abbrev main_call2_cst : Ref sig .tc := ⟨.hbm, 124, rfl⟩
abbrev main_call2_v15 : Ref sig .tc := ⟨.hbm, 125, rfl⟩
abbrev main_v44 : Ref sig .tc := ⟨.hbm, 126, rfl⟩
abbrev main_v45 : Ref sig .tc := ⟨.hbm, 127, rfl⟩
abbrev main_v46 : Ref sig .tc := ⟨.hbm, 128, rfl⟩
abbrev main_v47 : Ref sig .tc := ⟨.hbm, 129, rfl⟩
abbrev main_v48 : Ref sig .tc := ⟨.hbm, 130, rfl⟩
abbrev main_cst_4 : Ref sig .tc := ⟨.hbm, 131, rfl⟩
abbrev main_v49 : Ref sig .tc := ⟨.hbm, 132, rfl⟩
abbrev main_v50 : Ref sig .tc := ⟨.hbm, 133, rfl⟩
abbrev main_v51 : Ref sig .tc := ⟨.hbm, 134, rfl⟩
abbrev main_cst_5 : Ref sig .tc := ⟨.hbm, 135, rfl⟩
abbrev main_v52 : Ref sig .tc := ⟨.hbm, 136, rfl⟩
abbrev main_v53 : Ref sig .tc := ⟨.hbm, 137, rfl⟩
abbrev main_v54 : Ref sig .tc := ⟨.hbm, 138, rfl⟩
abbrev main_v55 : Ref sig .tc := ⟨.hbm, 139, rfl⟩
abbrev main_v56 : Ref sig .tc := ⟨.hbm, 140, rfl⟩
abbrev main_v57 : Ref sig .tc := ⟨.hbm, 141, rfl⟩
abbrev main_cst_6 : Ref sig .tc := ⟨.hbm, 142, rfl⟩
abbrev main_v58 : Ref sig .tc := ⟨.hbm, 143, rfl⟩
abbrev main_v59 : Ref sig .tc := ⟨.hbm, 144, rfl⟩
abbrev main_v60 : Ref sig .tc := ⟨.hbm, 145, rfl⟩
abbrev main_cst_7 : Ref sig .tc := ⟨.hbm, 146, rfl⟩
abbrev main_v61 : Ref sig .tc := ⟨.hbm, 147, rfl⟩
abbrev main_v62 : Ref sig .tc := ⟨.hbm, 148, rfl⟩
abbrev main_v63 : Ref sig .tc := ⟨.hbm, 149, rfl⟩
abbrev main_v64 : Ref sig .tc := ⟨.hbm, 150, rfl⟩
abbrev main_cst_8 : Ref sig .tc := ⟨.hbm, 151, rfl⟩
abbrev main_v65 : Ref sig .tc := ⟨.hbm, 152, rfl⟩
abbrev main_v66 : Ref sig .tc := ⟨.hbm, 153, rfl⟩
abbrev main_v67 : Ref sig .tc := ⟨.hbm, 154, rfl⟩
abbrev main_v68 : Ref sig .tc := ⟨.hbm, 155, rfl⟩
abbrev main_cst_9 : Ref sig .tc := ⟨.hbm, 156, rfl⟩
abbrev main_v69 : Ref sig .tc := ⟨.hbm, 157, rfl⟩
abbrev main_v70 : Ref sig .tc := ⟨.hbm, 158, rfl⟩
abbrev main_cst_10 : Ref sig .tc := ⟨.hbm, 159, rfl⟩
abbrev main_call3_v0 : Ref sig .tc := ⟨.hbm, 160, rfl⟩
abbrev main_call3_v1 : Ref sig .tc := ⟨.hbm, 161, rfl⟩
abbrev main_call3_v2 : Ref sig .tc := ⟨.hbm, 162, rfl⟩
abbrev main_v71 : Ref sig .tc := ⟨.hbm, 163, rfl⟩
abbrev main_cst_11 : Ref sig .tc := ⟨.hbm, 164, rfl⟩
abbrev main_v72 : Ref sig .tc := ⟨.hbm, 165, rfl⟩
abbrev main_cst_12 : Ref sig .tc := ⟨.hbm, 166, rfl⟩
abbrev main_v73 : Ref sig .tc := ⟨.hbm, 167, rfl⟩
abbrev main_v74 : Ref sig .tc := ⟨.hbm, 168, rfl⟩
abbrev main_v75 : Ref sig .tc := ⟨.hbm, 169, rfl⟩
abbrev main_v76 : Ref sig .tc := ⟨.hbm, 170, rfl⟩
abbrev main_v77 : Ref sig .tc := ⟨.hbm, 171, rfl⟩
abbrev main_v78 : Ref sig .tc := ⟨.hbm, 172, rfl⟩
abbrev main_cst_13 : Ref sig .tc := ⟨.hbm, 173, rfl⟩
abbrev main_v79 : Ref sig .tc := ⟨.hbm, 174, rfl⟩
abbrev main_v80 : Ref sig .tc := ⟨.hbm, 175, rfl⟩
abbrev main_v81 : Ref sig .tc := ⟨.hbm, 176, rfl⟩
abbrev main_v82 : Ref sig .tc := ⟨.hbm, 177, rfl⟩
abbrev main_v83 : Ref sig .tc := ⟨.hbm, 178, rfl⟩
abbrev main_v84 : Ref sig .tc := ⟨.hbm, 179, rfl⟩
abbrev main_v85 : Ref sig .tc := ⟨.hbm, 180, rfl⟩
abbrev main_v86 : Ref sig .tc := ⟨.hbm, 181, rfl⟩
abbrev main_v87 : Ref sig .tc := ⟨.hbm, 182, rfl⟩
abbrev main_v88 : Ref sig .tc := ⟨.hbm, 183, rfl⟩
abbrev main_v89 : Ref sig .tc := ⟨.hbm, 184, rfl⟩
abbrev main_v90 : Ref sig .tc := ⟨.hbm, 185, rfl⟩
abbrev main_v91 : Ref sig .tc := ⟨.hbm, 186, rfl⟩
abbrev main_v92 : Ref sig .tc := ⟨.hbm, 187, rfl⟩
abbrev main_v93 : Ref sig .tc := ⟨.hbm, 188, rfl⟩
abbrev main_v94 : Ref sig .tc := ⟨.hbm, 189, rfl⟩
abbrev main_v95 : Ref sig .tc := ⟨.hbm, 190, rfl⟩
abbrev main_cst_14 : Ref sig .tc := ⟨.hbm, 191, rfl⟩
abbrev main_v96 : Ref sig .tc := ⟨.hbm, 192, rfl⟩
abbrev main_v97 : Ref sig .tc := ⟨.hbm, 193, rfl⟩
abbrev main_v98 : Ref sig .tc := ⟨.hbm, 194, rfl⟩
abbrev main_v99 : Ref sig .tc := ⟨.hbm, 195, rfl⟩
abbrev main_cst_15 : Ref sig .tc := ⟨.hbm, 196, rfl⟩
abbrev main_v100 : Ref sig .tc := ⟨.hbm, 197, rfl⟩
abbrev main_cst_16 : Ref sig .tc := ⟨.hbm, 198, rfl⟩
abbrev main_v101 : Ref sig .tc := ⟨.hbm, 199, rfl⟩
abbrev main_v102 : Ref sig .tc := ⟨.hbm, 200, rfl⟩
abbrev main_v103 : Ref sig .tc := ⟨.hbm, 201, rfl⟩
abbrev main_v104 : Ref sig .tc := ⟨.hbm, 202, rfl⟩
abbrev main_v105 : Ref sig .tc := ⟨.hbm, 203, rfl⟩
abbrev main_v106 : Ref sig .tc := ⟨.hbm, 204, rfl⟩
abbrev main_v107 : Ref sig .tc := ⟨.hbm, 205, rfl⟩
abbrev main_v108 : Ref sig .tc := ⟨.hbm, 206, rfl⟩
abbrev main_cst_17 : Ref sig .tc := ⟨.hbm, 207, rfl⟩
abbrev main_v109 : Ref sig .tc := ⟨.hbm, 208, rfl⟩
abbrev main_v110 : Ref sig .tc := ⟨.hbm, 209, rfl⟩
abbrev main_v111 : Ref sig .tc := ⟨.hbm, 210, rfl⟩
abbrev main_v112 : Ref sig .tc := ⟨.hbm, 211, rfl⟩
abbrev main_cst_18 : Ref sig .tc := ⟨.hbm, 212, rfl⟩
abbrev main_v113 : Ref sig .tc := ⟨.hbm, 213, rfl⟩
abbrev main_cst_19 : Ref sig .tc := ⟨.hbm, 214, rfl⟩
abbrev main_v114 : Ref sig .tc := ⟨.hbm, 215, rfl⟩
abbrev main_v115 : Ref sig .tc := ⟨.hbm, 216, rfl⟩
abbrev main_v116 : Ref sig .tc := ⟨.hbm, 217, rfl⟩
abbrev main_v117 : Ref sig .tc := ⟨.hbm, 218, rfl⟩
abbrev main_v118 : Ref sig .tc := ⟨.hbm, 219, rfl⟩
abbrev main_v119 : Ref sig .tc := ⟨.hbm, 220, rfl⟩
abbrev main_v120 : Ref sig .tc := ⟨.hbm, 221, rfl⟩
abbrev main_v121 : Ref sig .tc := ⟨.hbm, 222, rfl⟩
abbrev main_v122 : Ref sig .tc := ⟨.hbm, 223, rfl⟩
abbrev main_v123 : Ref sig .tc := ⟨.hbm, 224, rfl⟩
abbrev main_v124 : Ref sig .tc := ⟨.hbm, 225, rfl⟩
abbrev main_cst_20 : Ref sig .tc := ⟨.hbm, 226, rfl⟩
abbrev main_v125 : Ref sig .tc := ⟨.hbm, 227, rfl⟩
abbrev main_v126 : Ref sig .tc := ⟨.hbm, 228, rfl⟩
abbrev main_v127 : Ref sig .tc := ⟨.hbm, 229, rfl⟩
abbrev main_v128 : Ref sig .tc := ⟨.hbm, 230, rfl⟩
abbrev main_v129 : Ref sig .tc := ⟨.hbm, 231, rfl⟩
abbrev main_cst_21 : Ref sig .tc := ⟨.hbm, 232, rfl⟩
abbrev main_v130 : Ref sig .tc := ⟨.hbm, 233, rfl⟩
abbrev main_v131 : Ref sig .tc := ⟨.hbm, 234, rfl⟩
abbrev main_v132 : Ref sig .tc := ⟨.hbm, 235, rfl⟩
abbrev main_v133 : Ref sig .tc := ⟨.hbm, 236, rfl⟩
abbrev main_cst_22 : Ref sig .tc := ⟨.hbm, 237, rfl⟩
abbrev main_v134 : Ref sig .tc := ⟨.hbm, 238, rfl⟩
abbrev main_v135 : Ref sig .tc := ⟨.hbm, 239, rfl⟩
abbrev main_v136 : Ref sig .tc := ⟨.hbm, 240, rfl⟩
abbrev main_v137 : Ref sig .tc := ⟨.hbm, 241, rfl⟩

abbrev nD : Nat := 1
abbrev τ : Topo := Topo.v7x

variable {F : FTy → Type} [FloatOps F]
-- ==== Proof.Frames.lean ====
/- What each program does whatever it computes: it ends, it leaves its arguments alone, and its counters are zero; and what the
   two named constants of the idealized kernel stand for. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import Idealize.ShloMosaic.Lib.Claim

@[expose] public section

set_option maxRecDepth 16384

noncomputable section

namespace Cert.Proof

open Idealize.ShloMosaic Idealize.SL.Sem

/-- The printed kernel ends with its arguments unchanged and every counter at zero. -/
theorem kernel_quiet : Cert.quiescent_Kernel (hKernel := Cert.Kernel.Gen.facts) :=
  fun m ρ _ => Cert.Kernel.Gen.frame m ρ

/-- So does the idealized kernel. -/
theorem kernelIdeal_quiet : Cert.quiescent_KernelIdeal (hKernelIdeal := Cert.KernelIdeal.Gen.facts) :=
  fun m ρ _ => Cert.KernelIdeal.Gen.frame m ρ

/-- So does the reference, which owns no counter at all. -/
theorem reference_quiet : Cert.quiescent_ReferenceIdeal (hReferenceIdeal := Cert.ReferenceIdeal.Gen.facts) := by
  intro m ρ _
  exact (θ_run Cert.ReferenceIdeal.defs _ _).mono
    (fun r h => ⟨fun c => (h c).2, sem_eq_zero_of_no_sems (by decide) r.2⟩)
    (Cert.ReferenceIdeal.Value.run (F := Ideal) m ρ)

/-- The score factor is named `-(√32)⁻¹` and the fill of a masked score is named `⊥`. -/
theorem named : Cert.preserves_Kernel_KernelIdeal :=
  ⟨IdealRules.named_const.statement Cert.KernelIdeal.κ "scale" .f32 0xBE3504F3#32 ((-((Real.sqrt 32)⁻¹) : ℝ) : EReal) rfl,
   IdealRules.named_const.statement Cert.KernelIdeal.κ "mask" .f32 0xCE6E6B28#32 ⊥ rfl⟩

end Cert.Proof

end
-- ==== Proof.KernelRun.lean ====
/- The kernel's run, with its result array read in the final state. -/
module

public import proofs.«01_k».proof.Proof.Gen.KernelIdeal.Frame
public import Idealize.ShloMosaic.Lib.Pipeline.FrameBody
public import Idealize.ShloMosaic.Lib.Pipeline.RegionsLoop
public import Idealize.ShloMosaic.Lib.Pipeline.FrameSuffix
public import Idealize.ShloMosaic.Lib.Tactic

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

set_option backward.isDefEq.respectTransparency.types false in
/-- Every execution of the kernel ends with each buffer at the contents the last boundary of its segments gives. -/
theorem run_all : θ_run defs (onTc (τ := τ) (main (F := Ideal))) ⟨m, fun _ => 0, ρ⟩ (fun r => ∀ c : Dev nD,
      ∀ b ∈ Pipeline.ucRefs τ sig, r.2.mem (((c : Thread nD τ)).1, b) = W9 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro H; imodintro
      isplitl [H]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact H
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hb, Hq, Ho⟩
      isplitl [Hb Hq]
      · isplitl [Hb]; · iexact Hb
        iexact Hq
      iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hb, -, Ho, -, Hq, -⟩, -⟩
      imodintro
      isplitl [Hb]; · iexact Hb
      isplitl [Hq]; · iexists _; iexact Hq
      iexists ∅; iexact Ho)
    (QY := fun c s => ∀ b ∈ Pipeline.ucRefs τ sig, s.mem (((c : Thread nD τ)).1, b) = W9 m ρ c b)
    (hfin := fun c s' => by
      iintro ⟨⟨Hb, -⟩, Hs⟩
      unfold StableHlo.held
      imodintro
      iapply (pointsTo_read_all (Pipeline.ucRefs τ sig) (fun b => (((c : Thread nD τ)).1, b)) (W9 m ρ c) s')
      isplitl [Hb] <;> iassumption)
    (hQ := fun s h _ c => h c)

/-- Every execution of the kernel ends with its result array at the last boundary's contents, and its arguments unchanged. -/
theorem run_result : θ_run defs (onTc (τ := τ) (main (F := Ideal))) ⟨m, fun _ => 0, ρ⟩ (fun r => ∀ c : Dev nD,
      r.2.mem ((c.tc : Thread nD τ).loc main_v47) = W9 m ρ c (Proc.devRef .tc main_v47)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c =>
      ⟨h c _ (mem_uc main_v47 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c)⟩) (run_all m ρ)

end Cert.KernelIdeal.Gen

end
-- ==== Proof.Spec.lean ====
/- The mathematics both programs compute, written once over the extended reals, with no array layout in it. -/
module

public import Idealize.ShloMosaic.PureOps.Ideal
public import Mathlib.Algebra.BigOperators.Group.Finset.Basic

@[expose] public section

noncomputable section

namespace Cert.Proof

open Idealize.ShloMosaic

/-- The mean of 96 channel values. -/
def mean (f : Fin 96 → EReal) : EReal := Ideal.div (∑ k, f k) (Ideal.ofBits .f32 0x42C00000#32)

/-- The variance of 96 channel values, with the small positive constant added. -/
def varEps (f : Fin 96 → EReal) : EReal :=
  mean (fun k => (f k - mean f) * (f k - mean f)) + Ideal.ofBits .f32 0x358637BD#32

/-- A channel value, centred and scaled to unit variance. -/
def nrm (f : Fin 96 → EReal) (c : Fin 96) : EReal := (f c - mean f) * Ideal.rsqrt (varEps f)

/-- The scattered mean `a / max n 1` where at least half a token arrived, `v` elsewhere. -/
def merged (a n v : EReal) : EReal :=
  if Ideal.ofBits .f32 0x3F000000#32 ≤ n then Ideal.div a (max n 1) else v

/-- Channel `e` of head `h`. -/
def hd (h : Fin 3) (e : Fin 32) : Fin 96 := ⟨32 * h.val + e.val, by omega⟩

/-- The distance of a query and a key of one head, kept away from zero. -/
def dist (q k : Fin 32 → EReal) : EReal :=
  Ideal.sqrt (max (∑ d, q d * q d + ∑ d, k d * k d - Ideal.ofBits .f32 0x40000000#32 * ∑ d, q d * k d)
    (Ideal.ofBits .f32 0x2B8CBCCC#32))

/-- The softmax of the scores `L`, its weights applied to `w`. -/
def attend {n : ℕ} (L w : Fin n → EReal) : EReal :=
  ∑ s, Ideal.div (Ideal.exp (L s - Finset.fold max (Ideal.ofBits .f32 0xFF800000#32) L Finset.univ))
    (∑ r, Ideal.exp (L r - Finset.fold max (Ideal.ofBits .f32 0xFF800000#32) L Finset.univ)) * w s

end Cert.Proof

end
-- ==== Proof.Norm.lean ====
/- The layer norm over the extended reals: the two spellings agree, and the result is always a real number. -/
module

public import proofs.«01_k».proof.Proof.Spec
public import Idealize.ShloMosaic.Lib.IdealHost
public import Mathlib.Data.EReal.Inv

@[expose] public section

noncomputable section

namespace Cert.Proof

open Idealize.ShloMosaic

/-! ## The constants, as numbers -/

theorem c96 : Ideal.ofBits .f32 0x42C00000#32 = ((96 : ℝ) : EReal) := by
  simp [Ideal.ofBits, Ideal.ieee, -EReal.coe_mul]; norm_num
theorem c32 : Ideal.ofBits .f32 0x42000000#32 = ((32 : ℝ) : EReal) := by
  simp [Ideal.ofBits, Ideal.ieee, -EReal.coe_mul]; norm_num
theorem c2 : Ideal.ofBits .f32 0x40000000#32 = ((2 : ℝ) : EReal) := by
  simp [Ideal.ofBits, Ideal.ieee, -EReal.coe_mul]; norm_num
theorem cHalf : Ideal.ofBits .f32 0x3F000000#32 = ((1 / 2 : ℝ) : EReal) := by
  simp [Ideal.ofBits, Ideal.ieee, -EReal.coe_mul]; norm_num
theorem cNegInf : Ideal.ofBits .f32 0xFF800000#32 = ⊥ := by
  simp [Ideal.ofBits, Ideal.ieee]
theorem cInf : Ideal.ofBits .f32 0x7F800000#32 = ⊤ := by
  simp [Ideal.ofBits, Ideal.ieee]
/-- The layer norm's small constant is a positive real. -/
theorem cEps : ∃ r : ℝ, 0 < r ∧ Ideal.ofBits .f32 0x358637BD#32 = (r : EReal) := by
  refine ⟨(2 ^ 23 + 407485 : ℝ) * (2 : ℝ) ^ (107 - 127 - 23 : ℤ), by positivity, ?_⟩
  simp [Ideal.ofBits, Ideal.ieee, -EReal.coe_mul]; norm_num
/-- The distance's floor is a positive real. -/
theorem cFloor : ∃ r : ℝ, 0 < r ∧ Ideal.ofBits .f32 0x2B8CBCCC#32 = (r : EReal) := by
  refine ⟨(2 ^ 23 + 834764 : ℝ) * (2 : ℝ) ^ (87 - 127 - 23 : ℤ), by positivity, ?_⟩
  simp [Ideal.ofBits, Ideal.ieee, -EReal.coe_mul]; norm_num
/-- The reference's test of a count compares with a real between zero and one. -/
theorem cTiny : ∃ r : ℝ, 0 < r ∧ r < 1 ∧ Ideal.ofBits .f32 0x3727C5AC#32 = (r : EReal) := by
  refine ⟨(2 ^ 23 + 2606508 : ℝ) * (2 : ℝ) ^ (110 - 127 - 23 : ℤ), by positivity, ?_, ?_⟩
  · norm_num
  · simp [Ideal.ofBits, Ideal.ieee, -EReal.coe_mul]; norm_num

/-! ## Real numbers among the extended reals -/

/-- The extended real is a real number. -/
def IsReal (x : EReal) : Prop := ∃ r : ℝ, x = (r : EReal)

theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩

/-- A sum of real numbers is the real sum. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsReal.sum {ι : Type} (s : Finset ι) {f : ι → EReal} (h : ∀ i, IsReal (f i)) : IsReal (∑ i ∈ s, f i) := by
  choose g hg using h
  refine ⟨∑ i ∈ s, g i, ?_⟩
  rw [coe_sum]
  exact Finset.sum_congr rfl fun i _ => hg i

theorem isReal_iff {x : EReal} : IsReal x ↔ x ≠ ⊥ ∧ x ≠ ⊤ := by
  constructor
  · rintro ⟨r, rfl⟩; exact ⟨EReal.coe_ne_bot r, EReal.coe_ne_top r⟩
  · rintro ⟨a, b⟩; exact ⟨x.toReal, (EReal.coe_toReal b a).symm⟩

/-- A sum holding `-∞` is `-∞`. -/
theorem sum_bot {n : ℕ} (f : Fin n → EReal) (k : Fin n) (h : f k = ⊥) : ∑ i, f i = ⊥ := by
  rw [← Finset.add_sum_erase _ _ (Finset.mem_univ k), h, EReal.bot_add]

/-- A sum holding `+∞` and no `-∞` is `+∞`. -/
theorem sum_top {n : ℕ} (f : Fin n → EReal) (k : Fin n) (h : f k = ⊤) (hb : ∀ i, f i ≠ ⊥) : ∑ i, f i = ⊤ := by
  rw [← Finset.add_sum_erase _ _ (Finset.mem_univ k), h]
  refine EReal.top_add_of_ne_bot ?_
  refine Finset.sum_induction f (fun x => x ≠ ⊥) (fun a b ha hb' => ?_) (by simp) (fun i _ => hb i)
  simp [EReal.add_eq_bot_iff, ha, hb']

/-! ## The norm -/

theorem div96 (x : EReal) : Ideal.div x ((96 : ℝ) : EReal) = x * ((1 / 96 : ℝ) : EReal) := Ideal.div_coe (by norm_num) x

theorem sq_nonneg_ereal (x : EReal) : 0 ≤ x * x := by
  induction x using EReal.rec with
  | bot => simp
  | top => simp
  | coe r => rw [← EReal.coe_mul]; exact_mod_cast mul_self_nonneg r

theorem mean_eq (f : Fin 96 → EReal) : mean f = (∑ k, f k) * ((1 / 96 : ℝ) : EReal) := by
  unfold mean; rw [c96, div96]

/-- The variance with its constant is positive. -/
theorem varEps_pos (f : Fin 96 → EReal) : 0 < varEps f := by
  unfold varEps
  obtain ⟨e, he, h⟩ := cEps
  rw [h, mean_eq]
  have h1 : (0 : EReal) ≤ (∑ k, (f k - mean f) * (f k - mean f)) * ((1 / 96 : ℝ) : EReal) :=
    mul_nonneg (Finset.sum_nonneg fun k _ => sq_nonneg_ereal _) (by exact_mod_cast (by norm_num : (0 : ℝ) ≤ 1 / 96))
  have h2 : (0 : EReal) < (e : EReal) := by exact_mod_cast he
  calc (0 : EReal) < (e : EReal) := h2
    _ = 0 + (e : EReal) := (zero_add _).symm
    _ ≤ _ := add_le_add h1 le_rfl

/-- Dividing by a root of a positive value is multiplying by its reciprocal root. -/
theorem div_sqrt (a v : EReal) (h : 0 < v) : Ideal.div a (Ideal.sqrt v) = a * Ideal.rsqrt v := by
  induction v using EReal.rec with
  | bot => simp at h
  | top => simp [Ideal.div]
  | coe r =>
    have hr : 0 < r := by exact_mod_cast h
    have hs : Real.sqrt r ≠ 0 := (Real.sqrt_pos.2 hr).ne'
    rw [Ideal.sqrt_coe, Ideal.rsqrt_coe, if_neg (not_lt.2 hr.le), if_neg (not_lt.2 hr.le), if_neg hr.ne', Ideal.div_coe hs, one_div]

/-- The reference's layer norm before its weight and bias is `nrm`. -/
theorem nrm_div (f : Fin 96 → EReal) (c : Fin 96) : Ideal.div (f c - mean f) (Ideal.sqrt (varEps f)) = nrm f c :=
  div_sqrt _ _ (varEps_pos f)

/-- A channel value after the norm is a real number, whatever the inputs. -/
theorem nrm_real (f : Fin 96 → EReal) (c : Fin 96) : IsReal (nrm f c) := by
  by_cases hf : ∀ k, IsReal (f k)
  · have hm : IsReal (mean f) := by
      rw [mean_eq]; exact (IsReal.sum _ hf).mul ⟨_, rfl⟩
    have hv : IsReal (varEps f) := by
      unfold varEps
      obtain ⟨e, _, h⟩ := cEps
      rw [h, mean_eq]
      exact ((IsReal.sum _ fun k => ((hf k).sub hm).mul ((hf k).sub hm)).mul ⟨_, rfl⟩).add ⟨e, rfl⟩
    have hp := varEps_pos f
    unfold nrm
    obtain ⟨v, hv⟩ := hv
    rw [hv] at hp ⊢
    have hr : 0 < v := by exact_mod_cast hp
    rw [Ideal.rsqrt_coe, if_neg (not_lt.2 hr.le), if_neg hr.ne']
    exact ((hf c).sub hm).mul ⟨_, rfl⟩
  · have hpos : (0 : EReal) < ((1 / 96 : ℝ) : EReal) := by exact_mod_cast (by norm_num : (0 : ℝ) < 1 / 96)
    have hd : ∀ k, f k - mean f = ⊤ ∨ f k - mean f = ⊥ := by
      push Not at hf
      obtain ⟨k, hk⟩ := hf
      by_cases hb : ∃ k, f k = ⊥
      · obtain ⟨j, hj⟩ := hb
        have : mean f = ⊥ := by
          rw [mean_eq, sum_bot f j hj, EReal.bot_mul_of_pos hpos]
        intro i
        rw [this]
        rcases eq_or_ne (f i) ⊥ with e | e
        · right; rw [e]; rfl
        · left; exact EReal.sub_bot e
      · push Not at hb
        have ht : f k = ⊤ := by
          by_contra h
          exact hk (isReal_iff.2 ⟨hb k, h⟩)
        have : mean f = ⊤ := by
          rw [mean_eq, sum_top f k ht hb, EReal.top_mul_of_pos hpos]
        intro i
        right
        rw [this]
        exact EReal.sub_top _
    have hv : varEps f = ⊤ := by
      unfold varEps
      obtain ⟨e, _, h⟩ := cEps
      have hq : ∀ k, (f k - mean f) * (f k - mean f) = ⊤ := by
        intro k
        rcases hd k with e | e <;> rw [e] <;> simp
      rw [h, mean_eq, sum_top _ 0 (hq 0) (fun i => by rw [hq i]; simp), EReal.top_mul_of_pos hpos]
      rfl
    unfold nrm
    rw [hv, Ideal.rsqrt_top, mul_zero]
    exact ⟨0, rfl⟩

end Cert.Proof

end
-- ==== Proof.Attend.lean ====
/- What one launch computes, written over the arrays alone, and the facts of arithmetic that bring both programs to it:
   the projections, the masked softmax over a tile and over a superpixel, and the merge of the scattered means. -/
module

public import proofs.«01_k».proof.Proof.Norm
public import Mathlib.Algebra.Order.BigOperators.Group.Finset

@[expose] public section

noncomputable section

namespace Cert.Proof

open Idealize.ShloMosaic

/-- The arrays a launch reads, by coordinates: pixels by batch, position and channel, the similarities and masks of a
    superpixel's 64 tokens, the layer norm's weight and bias, the three weight matrices, and the pixel each token names. -/
structure Arrays where
  x : Fin 2 → Fin 147456 → Fin 96 → EReal
  sim : Fin 2 → Fin 576 → Fin 64 → EReal
  mask : Fin 2 → Fin 576 → Fin 64 → EReal
  lw : Fin 96 → EReal
  lb : Fin 96 → EReal
  qw : Fin 96 → Fin 96 → EReal
  kw : Fin 96 → Fin 96 → EReal
  vw : Fin 96 → Fin 96 → EReal
  pix : Fin 2 → Fin 576 → Fin 64 → Fin 147456

namespace Arrays
variable (I : Arrays)

/-- Output channel `o` of a linear map `w` of the layer norm of pixel `p`. -/
def lin (w : Fin 96 → Fin 96 → EReal) (b : Fin 2) (p : Fin 147456) (o : Fin 96) : EReal :=
  ∑ c, (nrm (I.x b p) c * I.lw c + I.lb c) * w o c

/-- The score of key `s` for query `t` of one superpixel and head: minus the distance over `√32`, `-∞` where masked. -/
def logit (b : Fin 2) (k : Fin 576) (t : Fin 64) (h : Fin 3) (s : Fin 64) : EReal :=
  if 0 < I.mask b k s then
    Ideal.div (-(dist (fun e => I.lin I.qw b (I.pix b k t) (hd h e)) (fun e => I.lin I.kw b (I.pix b k s) (hd h e))))
      (Ideal.sqrt (Ideal.ofBits .f32 0x42000000#32))
  else ⊥

/-- Output channel `o` of token `t` of a superpixel. -/
def tok (b : Fin 2) (k : Fin 576) (t : Fin 64) (o : Fin 96) : EReal :=
  I.sim b k t * attend (fun s : Fin 64 => I.logit b k t ⟨o.val / 32, by omega⟩ s)
    (fun s => I.sim b k s * I.lin I.vw b (I.pix b k s) o)

/-- The sum of `f` over the tokens of batch `b` that name pixel `p`. -/
def gathered (b : Fin 2) (p : Fin 147456) (f : Fin 576 → Fin 64 → EReal) : EReal :=
  ∑ n : Fin 36864, if I.pix b ⟨n.val / 64, by omega⟩ ⟨n.val % 64, by omega⟩ = p then
    f ⟨n.val / 64, by omega⟩ ⟨n.val % 64, by omega⟩ else 0

/-- The result at batch `b`, channel `o` and pixel `p`. -/
def out (b : Fin 2) (o : Fin 96) (p : Fin 147456) : EReal :=
  merged (I.gathered b p fun k t => I.tok b k t o) (I.gathered b p fun _ _ => 1) (I.lin I.vw b p o)

/-- The weights are real numbers and every superpixel keeps a token. -/
structure Usable : Prop where
  lw : ∀ c, IsReal (I.lw c)
  lb : ∀ c, IsReal (I.lb c)
  qw : ∀ o c, IsReal (I.qw o c)
  kw : ∀ o c, IsReal (I.kw o c)
  vw : ∀ o c, IsReal (I.vw o c)
  kept : ∀ b k, ∃ s, 0 < I.mask b k s

end Arrays

/-! ## The projections -/

/-- Folding the layer norm's weight into the matrix and its bias into a vector changes no output channel. -/
theorem proj_fold (x w a b : Fin 96 → EReal) (hx : ∀ c, IsReal (x c)) (hw : ∀ c, IsReal (w c)) (ha : ∀ c, IsReal (a c)) (hb : ∀ c, IsReal (b c)) :
    ∑ c, x c * (w c * a c) + ∑ c, w c * b c = ∑ c, (x c * a c + b c) * w c := by
  choose x' hx using hx
  choose w' hw using hw
  choose a' ha using ha
  choose b' hb using hb
  simp only [hx, hw, ha, hb, ← EReal.coe_mul, ← EReal.coe_add, ← coe_sum, ← Finset.sum_add_distrib]
  exact congrArg _ (Finset.sum_congr rfl fun c _ => by ring)

namespace Arrays
variable {I : Arrays}

theorem lin_real (h : I.Usable) (w : Fin 96 → Fin 96 → EReal) (hw : ∀ o c, IsReal (w o c)) (b : Fin 2) (p : Fin 147456) (o : Fin 96) :
    IsReal (I.lin w b p o) :=
  IsReal.sum _ fun c => (((nrm_real _ c).mul (h.lw c)).add (h.lb c)).mul (hw o c)

theorem lin_fold (h : I.Usable) (w : Fin 96 → Fin 96 → EReal) (hw : ∀ o c, IsReal (w o c)) (b : Fin 2) (p : Fin 147456) (o : Fin 96) :
    ∑ c, nrm (I.x b p) c * (w o c * I.lw c) + ∑ c, w o c * I.lb c = I.lin w b p o :=
  proj_fold _ _ _ _ (fun c => nrm_real _ c) (hw o) h.lw h.lb

end Arrays

/-! ## The scores -/

/-- The distance of two real rows is a real number. -/
theorem dist_real (q k : Fin 32 → EReal) (hq : ∀ e, IsReal (q e)) (hk : ∀ e, IsReal (k e)) : IsReal (dist q k) := by
  unfold dist
  obtain ⟨e, he, hf⟩ := cFloor
  have h1 : IsReal (∑ d, q d * q d + ∑ d, k d * k d - Ideal.ofBits .f32 0x40000000#32 * ∑ d, q d * k d) :=
    ((IsReal.sum _ fun d => (hq d).mul (hq d)).add (IsReal.sum _ fun d => (hk d).mul (hk d))).sub
      (IsReal.mul ⟨2, c2⟩ (IsReal.sum _ fun d => (hq d).mul (hk d)))
  obtain ⟨r, hr⟩ := h1
  rw [hr, hf, ← EReal.coe_strictMono.monotone.map_max, Ideal.sqrt_coe, if_neg (not_lt.2 (le_max_of_le_right he.le))]
  exact ⟨_, rfl⟩

theorem sqrt32 : Ideal.sqrt (Ideal.ofBits .f32 0x42000000#32) = ((Real.sqrt 32 : ℝ) : EReal) := by
  rw [c32, Ideal.sqrt_coe, if_neg (by norm_num)]

/-- Multiplying a distance by the negative reciprocal root is negating it and dividing by the root. -/
theorem scale_eq (d : EReal) :
    ((-((Real.sqrt 32)⁻¹) : ℝ) : EReal) * d = Ideal.div (-d) (Ideal.sqrt (Ideal.ofBits .f32 0x42000000#32)) := by
  rw [sqrt32, Ideal.div_coe (Real.sqrt_pos.2 (by norm_num)).ne', one_div, EReal.coe_neg, EReal.neg_mul, EReal.neg_mul, mul_comm]

/-! ## The softmax over one block of a tile -/

theorem exp_nonneg' (x : EReal) : 0 ≤ Ideal.exp x := by
  induction x using EReal.rec with
  | bot => simp
  | top => simp
  | coe r => rw [Ideal.exp_coe]; exact_mod_cast (Real.exp_pos r).le

/-- A fold of maxima from `-∞` is the supremum. -/
theorem fold_sup {n : ℕ} (L : Fin n → EReal) :
    Finset.fold max (Ideal.ofBits .f32 0xFF800000#32) L Finset.univ = Finset.univ.sup L := by
  rw [cNegInf]; rfl

/-- The softmax's divisor is positive where some score is a real number and none is `+∞`. -/
theorem denom_pos {n : ℕ} (L : Fin n → EReal) (hr : ∃ s, IsReal (L s)) (ht : ∀ s, L s ≠ ⊤) :
    0 < ∑ r, Ideal.exp (L r - Finset.univ.sup L) := by
  obtain ⟨s0, hs0⟩ := hr
  obtain ⟨s, -, hs⟩ := Finset.exists_mem_eq_sup Finset.univ ⟨s0, Finset.mem_univ _⟩ L
  have hb : L s ≠ ⊥ := by
    intro e
    rw [e] at hs
    have : L s0 ≤ ⊥ := hs ▸ Finset.le_sup (Finset.mem_univ s0)
    exact (isReal_iff.1 hs0).1 (le_bot_iff.1 this)
  obtain ⟨r, hr⟩ := isReal_iff.2 ⟨hb, ht s⟩
  have h1 : (1 : EReal) = Ideal.exp (L s - Finset.univ.sup L) := by
    rw [hs, hr, ← EReal.coe_sub, sub_self, Ideal.exp_coe, Real.exp_zero]; rfl
  calc (0 : EReal) < 1 := zero_lt_one
    _ = Ideal.exp (L s - Finset.univ.sup L) := h1
    _ ≤ _ := Finset.single_le_sum (f := fun r => Ideal.exp (L r - Finset.univ.sup L)) (fun i _ => exp_nonneg' _) (Finset.mem_univ s)

/-- Token `j` of block `g` of a tile. -/
def blk (g : Fin 4) (j : Fin 64) : Fin 256 := ⟨64 * g.val + j.val, by omega⟩

/-- A sum over a tile of a function that vanishes off block `g` is the sum over the block. -/
theorem sum_block (g : Fin 4) (F : Fin 256 → EReal) (h : ∀ s, s.val / 64 ≠ g.val → F s = 0) : ∑ s, F s = ∑ j, F (blk g j) := by
  refine (Finset.sum_of_injOn (blk g) ?_ ?_ ?_ ?_).symm
  · intro a _ b _ e
    have := congrArg Fin.val e
    simp only [blk] at this
    exact Fin.ext (by omega)
  · intro a _; simp
  · intro s _ hs
    refine h s fun e => hs ⟨⟨s.val % 64, by omega⟩, by simp, Fin.ext ?_⟩
    simp only [blk]
    omega
  · intro j _; rfl

/-- Over a tile whose scores are `-∞` off block `g`, the softmax is the block's own. -/
theorem attend_block (g : Fin 4) (L w : Fin 256 → EReal) (hoff : ∀ s, s.val / 64 ≠ g.val → L s = ⊥)
    (hr : ∃ j, IsReal (L (blk g j))) (ht : ∀ s, L s ≠ ⊤) :
    attend L w = attend (fun j => L (blk g j)) (fun j => w (blk g j)) := by
  have hM : Finset.univ.sup L = Finset.univ.sup fun j => L (blk g j) := by
    refine le_antisymm (Finset.sup_le fun s _ => ?_) (Finset.sup_le fun j _ => Finset.le_sup (f := L) (Finset.mem_univ _))
    by_cases hs : s.val / 64 = g.val
    · have : s = blk g ⟨s.val % 64, by omega⟩ := Fin.ext (by simp only [blk]; omega)
      rw [this]
      exact Finset.le_sup (f := fun j => L (blk g j)) (Finset.mem_univ (⟨s.val % 64, by omega⟩ : Fin 64))
    · rw [hoff s hs]; exact bot_le
  have h0 : ∀ s : Fin 256, s.val / 64 ≠ g.val → Ideal.exp (L s - Finset.univ.sup L) = 0 := by
    intro s hs
    rw [hoff s hs, EReal.bot_sub, Ideal.exp_bot]
  have hD : ∑ r, Ideal.exp (L r - Finset.univ.sup L) ≠ 0 :=
    (denom_pos L (hr.elim fun j h => ⟨_, h⟩) ht).ne'
  unfold attend
  simp only [fold_sup]
  rw [sum_block g (fun s => Ideal.div _ _ * w s) fun s hs => ?_]
  · rw [sum_block g (fun r => Ideal.exp _) h0, hM]
  · rw [h0 s hs, Ideal.div, if_neg hD, zero_mul, zero_mul]

/-! ## Sums over the tokens of one batch -/

/-- A sum over both batches' tokens of a function that vanishes off batch `b` is the sum over that batch. -/
theorem sum_batch (b : Fin 2) (F : Fin 73728 → EReal) (G : Fin 36864 → EReal)
    (hon : ∀ n : Fin 36864, F ⟨b.val * 36864 + n.val, by omega⟩ = G n) (hoff : ∀ n, n.val / 36864 ≠ b.val → F n = 0) : ∑ n, F n = ∑ n, G n := by
  refine (Finset.sum_of_injOn (fun n : Fin 36864 => (⟨b.val * 36864 + n.val, by omega⟩ : Fin 73728)) ?_ ?_ ?_ ?_).symm
  · intro a _ c _ e
    have := congrArg Fin.val e
    simp only at this
    exact Fin.ext (by omega)
  · intro a _; simp
  · intro s _ hs
    refine hoff s fun e => hs ⟨⟨s.val % 36864, by omega⟩, by simp, Fin.ext ?_⟩
    simp only
    omega
  · intro j _; exact (hon j).symm

/-! ## The merge -/

/-- The number of tokens that name a pixel is a natural number. -/
theorem count_nat (I : Arrays) (b : Fin 2) (p : Fin 147456) : ∃ n : ℕ, I.gathered b p (fun _ _ => 1) = ((n : ℝ) : EReal) := by
  unfold Arrays.gathered
  refine Finset.sum_induction _ (fun x => ∃ n : ℕ, x = ((n : ℝ) : EReal)) ?_ ⟨0, by simp⟩ ?_
  · rintro _ _ ⟨m, rfl⟩ ⟨n, rfl⟩
    exact ⟨m + n, by push_cast; rfl⟩
  · intro n _
    split
    · exact ⟨1, by simp⟩
    · exact ⟨0, by simp⟩

/-- The reference's blend by the test of a natural number of tokens is the merge. -/
theorem blend (a v : EReal) (n : ℕ) :
    (if Ideal.ofBits .f32 0x3727C5AC#32 < ((n : ℝ) : EReal) then 1 else 0) * Ideal.div a (max ((n : ℝ) : EReal) 1)
      + (1 - (if Ideal.ofBits .f32 0x3727C5AC#32 < ((n : ℝ) : EReal) then 1 else 0)) * v = merged a ((n : ℝ) : EReal) v := by
  obtain ⟨t, h0, h1, ht⟩ := cTiny
  have e0 : (1 : EReal) - 0 = 1 := by norm_num
  have e1 : (1 : EReal) - 1 = 0 := by
    have : ((1 : ℝ) : EReal) - ((1 : ℝ) : EReal) = ((1 - 1 : ℝ) : EReal) := (EReal.coe_sub 1 1).symm
    simpa using this
  unfold merged
  rw [ht, cHalf]
  rcases Nat.eq_zero_or_pos n with rfl | hn
  · have h2 : ¬ ((t : EReal) < (((0 : ℕ) : ℝ) : EReal)) := by
      simp only [EReal.coe_lt_coe_iff, Nat.cast_zero]; exact not_lt.2 h0.le
    have h3 : ¬ (((1 / 2 : ℝ) : EReal) ≤ (((0 : ℕ) : ℝ) : EReal)) := by
      simp only [EReal.coe_le_coe_iff, Nat.cast_zero]; norm_num
    rw [if_neg h2, if_neg h3, zero_mul, e0, one_mul, zero_add]
  · have hn' : (1 : ℝ) ≤ (n : ℝ) := by exact_mod_cast hn
    have h2 : (t : EReal) < ((n : ℝ) : EReal) := by
      simp only [EReal.coe_lt_coe_iff]; linarith
    have h3 : ((1 / 2 : ℝ) : EReal) ≤ ((n : ℝ) : EReal) := by
      simp only [EReal.coe_le_coe_iff]; linarith
    rw [if_pos h2, if_pos h3, e1, one_mul, zero_mul, add_zero]

end Cert.Proof

end
-- ==== Proof.Lookup.lean ====
/- Where the programs' gathers read and their scatters write. -/
module

public import proofs.«01_k».proof.Proof.Gen.KernelIdeal.Frame
public import proofs.«01_k».proof.Proof.Gen.ReferenceIdeal.Run
public import Idealize.ShloMosaic.Lib.Pipeline.ValueKit
public import Idealize.ShloMosaic.Lib.Pointwise
public import Idealize.ShloMosaic.Lib.Routing.Ops
public import Idealize.ShloMosaic.Lib.Routing.OpsPair
public import Idealize.ShloMosaic.Lib.Routing.OpsSet

@[expose] public section

set_option maxRecDepth 16384

noncomputable section

namespace Cert.Proof

open Idealize.ShloMosaic Idealize.ShloMosaic.Routing

/-- Update `(k, o')` of rows scattered into `294912` rows lands at row `r`, column `o`: when its index word is `r` and the columns agree. -/
theorem rows294912 (idx : IVec Cert.KernelIdeal.S73728x1 32) (k : Fin 73728) (o' : Fin 96) (r : Fin 294912) (o : Fin 96) :
    Cert.KernelIdeal.scatter_S294912x96_S73728x1_S73728x96_1_0_0_1.resultIdx? (ix2 k o') idx = some (ix2 r o)
      ↔ (idx (ix2 k 0)).toInt = (r.val : Int) ∧ o' = o := by
  refine (resultIdx?_ix2 _ _ _ r o).trans ?_
  have h0 : Cert.KernelIdeal.scatter_S294912x96_S73728x1_S73728x96_1_0_0_1.start (ix2 k o') idx 0 = (idx (ix2 k 0)).toInt := by
    unfold ScatterDims.start
    rw [dif_pos (by decide)]
    refine congrArg (fun i => (idx i).toInt) (funext fun b => Fin.ext ?_)
    match b with
    | ⟨0, _⟩ => rfl
    | ⟨1, _⟩ => rfl
  have h1 : Cert.KernelIdeal.scatter_S294912x96_S73728x1_S73728x96_1_0_0_1.start (ix2 k o') idx 1 = 0 := by
    unfold ScatterDims.start
    rw [dif_neg (by decide)]
  have w0 : Cert.KernelIdeal.scatter_S294912x96_S73728x1_S73728x96_1_0_0_1.window (ix2 k o') 0 = 0 := rfl
  have w1 : Cert.KernelIdeal.scatter_S294912x96_S73728x1_S73728x96_1_0_0_1.window (ix2 k o') 1 = o'.val := rfl
  rw [h0, h1, w0, w1]
  constructor
  · rintro ⟨a, b⟩; exact ⟨by omega, Fin.ext (by omega)⟩
  · rintro ⟨a, rfl⟩; exact ⟨by omega, by omega⟩

/-- Update `k` of entries scattered into `294912` lands at entry `r` when its index word is `r`. -/
theorem entries294912 (idx : IVec Cert.KernelIdeal.S73728x1 32) (k : Fin 73728) (r : Fin 294912) :
    Cert.KernelIdeal.scatter_S294912_S73728x1_S73728_n_0_0_1.resultIdx? (ix1 k) idx = some (ix1 r) ↔ (idx (ix2 k 0)).toInt = (r.val : Int) := by
  refine (resultIdx?_ix1 _ _ _ r).trans ?_
  have h0 : Cert.KernelIdeal.scatter_S294912_S73728x1_S73728_n_0_0_1.start (ix1 k) idx 0 = (idx (ix2 k 0)).toInt := by
    unfold ScatterDims.start
    rw [dif_pos (by decide)]
    refine congrArg (fun i => (idx i).toInt) (funext fun b => Fin.ext ?_)
    match b with
    | ⟨0, _⟩ => rfl
    | ⟨1, _⟩ => rfl
  have w0 : Cert.KernelIdeal.scatter_S294912_S73728x1_S73728_n_0_0_1.window (ix1 k) 0 = 0 := rfl
  rw [h0, w0]
  constructor <;> intro h <;> omega

/-- Update `(k, o')` of rows scattered into `147456` rows lands at row `r`, column `o`: when its index word is `r` and the columns agree. -/
theorem rows147456 (idx : IVec Cert.ReferenceIdeal.S36864x1 32) (k : Fin 36864) (o' : Fin 96) (r : Fin 147456) (o : Fin 96) :
    Cert.ReferenceIdeal.scatter_S147456x96_S36864x1_S36864x96_1_0_0_1.resultIdx? (ix2 k o') idx = some (ix2 r o)
      ↔ (idx (ix2 k 0)).toInt = (r.val : Int) ∧ o' = o := by
  refine (resultIdx?_ix2 _ _ _ r o).trans ?_
  have h0 : Cert.ReferenceIdeal.scatter_S147456x96_S36864x1_S36864x96_1_0_0_1.start (ix2 k o') idx 0 = (idx (ix2 k 0)).toInt := by
    unfold ScatterDims.start
    rw [dif_pos (by decide)]
    refine congrArg (fun i => (idx i).toInt) (funext fun b => Fin.ext ?_)
    match b with
    | ⟨0, _⟩ => rfl
    | ⟨1, _⟩ => rfl
  have h1 : Cert.ReferenceIdeal.scatter_S147456x96_S36864x1_S36864x96_1_0_0_1.start (ix2 k o') idx 1 = 0 := by
    unfold ScatterDims.start
    rw [dif_neg (by decide)]
  have w0 : Cert.ReferenceIdeal.scatter_S147456x96_S36864x1_S36864x96_1_0_0_1.window (ix2 k o') 0 = 0 := rfl
  have w1 : Cert.ReferenceIdeal.scatter_S147456x96_S36864x1_S36864x96_1_0_0_1.window (ix2 k o') 1 = o'.val := rfl
  rw [h0, h1, w0, w1]
  constructor
  · rintro ⟨a, b⟩; exact ⟨by omega, Fin.ext (by omega)⟩
  · rintro ⟨a, rfl⟩; exact ⟨by omega, by omega⟩

/-- Update `k` of entries scattered into `147456` lands at entry `r` when its index word is `r`. -/
theorem entries147456 (idx : IVec Cert.ReferenceIdeal.S36864x1 32) (k : Fin 36864) (r : Fin 147456) :
    Cert.ReferenceIdeal.scatter_S147456_S36864x1_S36864_n_0_0_1.resultIdx? (ix1 k) idx = some (ix1 r) ↔ (idx (ix2 k 0)).toInt = (r.val : Int) := by
  refine (resultIdx?_ix1 _ _ _ r).trans ?_
  have h0 : Cert.ReferenceIdeal.scatter_S147456_S36864x1_S36864_n_0_0_1.start (ix1 k) idx 0 = (idx (ix2 k 0)).toInt := by
    unfold ScatterDims.start
    rw [dif_pos (by decide)]
    refine congrArg (fun i => (idx i).toInt) (funext fun b => Fin.ext ?_)
    match b with
    | ⟨0, _⟩ => rfl
    | ⟨1, _⟩ => rfl
  have w0 : Cert.ReferenceIdeal.scatter_S147456_S36864x1_S36864_n_0_0_1.window (ix1 k) 0 = 0 := rfl
  rw [h0, w0]
  constructor <;> intro h <;> omega

/-- A row written into the `8 × 96` table: update `k` lands at row `r`, column `o`, when the index word is `r` and `k` is `o`. -/
theorem rowOf8 (idx : IVec Cert.KernelIdeal.S1 32) (k : Fin 96) (r : Fin 8) (o : Fin 96) :
    Cert.KernelIdeal.scatter_S8x96_S1_S96_0_0_0_0.resultIdx? (ix1 k) idx = some (ix2 r o) ↔ (idx (ix1 0)).toInt = (r.val : Int) ∧ k = o := by
  refine (resultIdx?_ix2 _ _ _ r o).trans ?_
  have h0 : Cert.KernelIdeal.scatter_S8x96_S1_S96_0_0_0_0.start (ix1 k) idx 0 = (idx (ix1 0)).toInt := by
    unfold ScatterDims.start
    rw [dif_pos (by decide)]
    refine congrArg (fun i => (idx i).toInt) (funext fun b => Fin.ext ?_)
    match b with
    | ⟨0, _⟩ => rfl
  have h1 : Cert.KernelIdeal.scatter_S8x96_S1_S96_0_0_0_0.start (ix1 k) idx 1 = 0 := by
    unfold ScatterDims.start
    rw [dif_neg (by decide)]
  have w0 : Cert.KernelIdeal.scatter_S8x96_S1_S96_0_0_0_0.window (ix1 k) 0 = 0 := rfl
  have w1 : Cert.KernelIdeal.scatter_S8x96_S1_S96_0_0_0_0.window (ix1 k) 1 = k.val := rfl
  rw [h0, h1, w0, w1]
  constructor
  · rintro ⟨a, b⟩; exact ⟨by omega, Fin.ext (by omega)⟩
  · rintro ⟨a, rfl⟩; exact ⟨by omega, by omega⟩

/-- Writing row `r` of the `8 × 96` table, read on that row and off it. -/
theorem writeRow {α : Type} (x : Cert.KernelIdeal.S8x96.Idx → α) (idx : IVec Cert.KernelIdeal.S1 32) (u : Cert.KernelIdeal.S96.Idx → α)
    (q r : Fin 8) (o : Fin 96) (h : (idx (ix1 0)).toInt = (q.val : Int)) :
    Host.scatter Cert.KernelIdeal.scatter_S8x96_S1_S96_0_0_0_0 (fun _ b => b) x idx u (ix2 r o)
      = if r = q then u (ix1 o) else x (ix2 r o) := by
  split
  · rename_i e
    subst e
    refine scatter_set_hit _ x idx u _ _ (fun k hk => ?_) (ix1 o) ((rowOf8 idx o r o).2 ⟨h, rfl⟩)
    rw [eq_ix1 k] at hk ⊢
    rw [((rowOf8 idx _ r o).1 hk).2]
  · rename_i e
    refine scatter_set_miss _ x idx u _ fun k hk => ?_
    rw [eq_ix1 k] at hk
    have := ((rowOf8 idx _ r o).1 hk).1
    exact e (Fin.ext (by omega))

/-- The reference's gather by batch: result `(b, o, n)` reads the operand at batch `b`, channel `o` and the pixel its index word names. -/
theorem take_batch {α : Type} (x : Cert.ReferenceIdeal.S2x96x147456.Idx → α) (idx : IVec Cert.ReferenceIdeal.S2x36864x1 32)
    (b : Fin 2) (o : Fin 96) (n : Fin 36864) (p : Fin 147456) (h : (idx (ix3 b n 0)).toInt = (p.val : Int)) :
    Host.gather Cert.ReferenceIdeal.gather_S2x96x147456_S2x36864x1_S2x96x36864_1_2_0_0_2_2_1961 x idx (ix3 b o n) = x (ix3 b o p) := by
  unfold Host.gather
  refine congrArg x (funext fun a => Fin.ext ?_)
  show GatherDims.start _ _ idx a + GatherDims.batchCoord _ _ a + GatherDims.offCoord _ _ a = _
  have ha : a = (0 : Fin 3) ∨ a = (1 : Fin 3) ∨ a = (2 : Fin 3) := by
    match a with
    | ⟨0, _⟩ => exact Or.inl rfl
    | ⟨1, _⟩ => exact Or.inr (Or.inl rfl)
    | ⟨2, _⟩ => exact Or.inr (Or.inr rfl)
  rcases ha with rfl | rfl | rfl
  · rw [GatherDims.start_batching _ _ _ _ (by decide), GatherDims.offCoord_eq_zero _ _ _ (by decide)]
    show 0 + b.val + 0 = b.val
    omega
  · rw [GatherDims.batchCoord_eq_zero _ _ _ (by decide)]
    unfold GatherDims.start
    rw [dif_neg (by decide)]
    show 0 + 0 + o.val = o.val
    omega
  · rw [GatherDims.batchCoord_eq_zero _ _ _ (by decide), GatherDims.offCoord_eq_zero _ _ _ (by decide)]
    unfold GatherDims.start
    rw [dif_pos (by decide)]
    have hi : Cert.ReferenceIdeal.gather_S2x96x147456_S2x36864x1_S2x96x36864_1_2_0_0_2_2_1961.siIdx (ix3 b o n)
        ⟨List.idxOf (2 : Fin 3) Cert.ReferenceIdeal.gather_S2x96x147456_S2x36864x1_S2x96x36864_1_2_0_0_2_2_1961.startIndexMap, by decide⟩ = ix3 b n 0 := by
      funext e
      match e with
      | ⟨0, _⟩ => rfl
      | ⟨1, _⟩ => rfl
      | ⟨2, _⟩ => rfl
    rw [hi, h]
    show min (p.val : Int).toNat (147456 - 1) + 0 + 0 = p.val
    have := p.isLt
    omega

/-! ## The tests a read by row word makes -/

theorem word_toInt {r : Nat} (h : r < 2 ^ 31) : (BitVec.ofNat 32 r).toInt = (r : Int) := WordCmp.toInt_ofNat_of_lt (w := 32) h

theorem word_wrap {r : Nat} (h : r < 2 ^ 31) (a : BitVec 32) :
    Scalar.select (IntOp.cmpi .slt (BitVec.ofNat 32 r) 0#32) a (BitVec.ofNat 32 r) = BitVec.ofNat 32 r := by
  refine wrap_of_lt _ _ ?_
  rw [BitVec.toNat_ofNat]
  omega

theorem word_nonneg {r : Nat} (h : r < 2 ^ 31) : IntOp.cmpi .sge (BitVec.ofNat 32 r) 0#32 = 1#1 := by
  have e := word_toInt h
  simp only [IntOp.cmpi, BitVec.sle, e]
  simp

theorem word_le {r n : Nat} (h : r ≤ n) (hn : n < 2 ^ 31) : IntOp.cmpi .sle (BitVec.ofNat 32 r) (BitVec.ofNat 32 n) = 1#1 := by
  have e := word_toInt (show r < 2 ^ 31 by omega)
  have e' := word_toInt hn
  simp only [IntOp.cmpi, BitVec.sle, e, e']
  simp [h]

theorem fold_one (a : BitVec 1) : Finset.fold IntOp.andi 1#1 (fun _ : Fin 1 => a) Finset.univ = IntOp.andi a 1#1 := by
  rw [Finset.univ_unique, Finset.fold_singleton]

end Cert.Proof

end
-- ==== Proof.Host0.lean ====
/- What the kernel's first stretch of host operations leaves: the weights scaled by the layer norm's weight, the biases,
   and the pixels in one axis. -/
module

public import proofs.«01_k».proof.Proof.Spec
public import proofs.«01_k».proof.Proof.Lookup
public import proofs.«01_k».proof.Proof.Gen.KernelIdeal.Frame
public import Idealize.ShloMosaic.Lib.Pipeline.ValueKit
public import Idealize.ShloMosaic.Lib.Pointwise
public import Idealize.ShloMosaic.Lib.StableHlo.RunRead

@[expose] public section

set_option maxRecDepth 16384

noncomputable section

namespace Cert.Proof

open Idealize.ShloMosaic Idealize.SL.Sem Cert.KernelIdeal Cert.KernelIdeal.Gen

variable (m : (ℓ : Loc nD τ sig) → Buf (Elt Ideal) ℓ) (ρ : Dev nD → PrngReg)

/-! The arrays the kernel is launched with, by what they hold. -/
abbrev aX (c : Dev nD) : FVec Ideal S2x96x384x384 .f32 := m ((c.tc : Thread nD τ).loc main_arg0)
abbrev aSim (c : Dev nD) : FVec Ideal S2x576x64 .f32 := m ((c.tc : Thread nD τ).loc main_arg1)
abbrev aMask (c : Dev nD) : FVec Ideal S2x576x64 .f32 := m ((c.tc : Thread nD τ).loc main_arg2)
abbrev aLw (c : Dev nD) : FVec Ideal S96 .f32 := m ((c.tc : Thread nD τ).loc main_arg3)
abbrev aLb (c : Dev nD) : FVec Ideal S96 .f32 := m ((c.tc : Thread nD τ).loc main_arg4)
abbrev aQw (c : Dev nD) : FVec Ideal S96x96 .f32 := m ((c.tc : Thread nD τ).loc main_arg5)
abbrev aKw (c : Dev nD) : FVec Ideal S96x96 .f32 := m ((c.tc : Thread nD τ).loc main_arg6)
abbrev aVw (c : Dev nD) : FVec Ideal S96x96 .f32 := m ((c.tc : Thread nD τ).loc main_arg7)
abbrev aIdx (c : Dev nD) : IVec S2x576x64 32 := m ((c.tc : Thread nD τ).loc main_arg8)

/-- A weight matrix against the layer norm's bias. -/
def biasOf (w : FVec Ideal S96x96 .f32) (lb : FVec Ideal S96 .f32) (o : Fin 96) : EReal := ∑ k, w (ix2 o k) * lb (ix1 k)

theorem v3_at (c : Dev nD) (a b : Fin 96) : (W1 m ρ c (Proc.devRef .tc main_v3) : FVec Ideal S96x96 .f32) (ix2 a b)
    = aQw m c (ix2 b a) * aLw m c (ix1 a) := by
  after_reads_simp
  pointwise

theorem v6_at (c : Dev nD) (a b : Fin 96) : (W1 m ρ c (Proc.devRef .tc main_v6) : FVec Ideal S96x96 .f32) (ix2 a b)
    = aKw m c (ix2 a b) * aLw m c (ix1 b) := by
  after_reads_simp
  pointwise

theorem v10_at (c : Dev nD) (a b : Fin 96) : (W1 m ρ c (Proc.devRef .tc main_v10) : FVec Ideal S96x96 .f32) (ix2 a b)
    = aVw m c (ix2 b a) * aLw m c (ix1 a) := by
  after_reads_simp
  pointwise

theorem bias_dot (w : FVec Ideal S96x96 .f32) (b : FVec Ideal S96 .f32) (a : Fin 96) :
    Host.dotGeneral (F := Ideal) dot_S96x96_S96_S96_1_0_0_n_n_n none w b (ix1 a) = biasOf w b a := by
  unfold biasOf
  pointwise

theorem v13_at (c : Dev nD) (a : Fin 96) : (W1 m ρ c (Proc.devRef .tc main_v13) : FVec Ideal S96 .f32) (ix1 a)
    = biasOf (aVw m c) (aLb m c) a := by
  after_reads_simp
  exact bias_dot _ _ a

theorem v21_at (c : Dev nD) (b : Fin 2) (k : Fin 96) (p : Fin 147456) : (W1 m ρ c (Proc.devRef .tc main_v21) : FVec Ideal S2x96x147456 .f32) (ix3 b k p)
    = aX m c (ix4 b k ⟨p.val / 384, by omega⟩ ⟨p.val % 384, by omega⟩) := by
  after_reads_simp
  pointwise

/-- Row 0 of the bias table is the query bias. -/
theorem v20_0 (c : Dev nD) (o : Fin 96) : (W1 m ρ c (Proc.devRef .tc main_v20) : FVec Ideal S8x96 .f32) (ix2 0 o)
    = biasOf (aQw m c) (aLb m c) o := by
  after_reads_simp
  refine (writeRow _ _ _ 2 0 o rfl).trans ?_
  rw [if_neg (by decide)]
  refine (writeRow _ _ _ 1 0 o rfl).trans ?_
  rw [if_neg (by decide)]
  refine (writeRow _ _ _ 0 0 o rfl).trans ?_
  rw [if_pos rfl]
  exact bias_dot _ _ o

/-- Row 1 of the bias table is the key bias. -/
theorem v20_1 (c : Dev nD) (o : Fin 96) : (W1 m ρ c (Proc.devRef .tc main_v20) : FVec Ideal S8x96 .f32) (ix2 1 o)
    = biasOf (aKw m c) (aLb m c) o := by
  after_reads_simp
  refine (writeRow _ _ _ 2 1 o rfl).trans ?_
  rw [if_neg (by decide)]
  refine (writeRow _ _ _ 1 1 o rfl).trans ?_
  rw [if_pos rfl]
  exact bias_dot _ _ o

/-- Row 2 of the bias table is the value bias. -/
theorem v20_2 (c : Dev nD) (o : Fin 96) : (W1 m ρ c (Proc.devRef .tc main_v20) : FVec Ideal S8x96 .f32) (ix2 2 o)
    = biasOf (aVw m c) (aLb m c) o := by
  after_reads_simp
  refine (writeRow _ _ _ 2 2 o rfl).trans ?_
  rw [if_pos rfl]
  exact bias_dot _ _ o

end Cert.Proof

end
-- ==== Proof.Reg0.lean ====
/- The first grid of the kernel: every pixel's channels normalized, the channel axis moved last. -/
module

public import proofs.«01_k».proof.Proof.Spec
public import proofs.«01_k».proof.Proof.Gen.KernelIdeal.Frame
public import Idealize.ShloMosaic.Lib.Pipeline.ValueKit
public import Idealize.ShloMosaic.Lib.Pointwise

@[expose] public section

set_option maxRecDepth 16384

noncomputable section

namespace Cert.Proof

open Idealize.ShloMosaic Idealize.SL.Sem Cert.KernelIdeal Cert.KernelIdeal.Gen

/-- The first grid's result array, from the array it reads. -/
def G0 (X : FVec Ideal S2x96x147456 .f32) : FVec Ideal S2x147456x96 .f32 :=
  fun i => nrm (fun k => X (ix3 (i 0) k (i 1))) (i 2)

theorem idx0_0 : ∀ t : Fin cfg0.N, (cfg0.win 0).index t = ![t.val / 72, 0, t.val % 72] := by decide +kernel

theorem idx0_1 : ∀ t : Fin cfg0.N, (cfg0.win 1).index t = ![t.val / 72, t.val % 72, 0] := by decide +kernel

theorem pay0 (x : FVec Ideal S1x96x2048 .f32) (a : Fin 1) (p : Fin 2048) (c : Fin 96) :
    k0_pay1 (F := Ideal) x (ix3 a p c) = nrm (fun k => x (ix3 0 k p)) c := by
  pointwise [k0_pay1]
  rfl

variable (V : (c : Dev nD) → (b : Ref sig .tc) → Buf (Elt Ideal) (c.tc.loc b : Loc nD τ sig))

theorem arr0 (c : Dev nD) : (dat0 V c).arrAt 1 cfg0.N = G0 (V c main_v21 : FVec Ideal S2x96x147456 .f32) := by
  refine (dat0 V c).arrAt_eq_of_covers 1 (G0 (V c main_v21 : FVec Ideal S2x96x147456 .f32)) (by decide +kernel) fun t hf y => ?_
  blk_simp
  rw [after0_1]
  frame_out
  obtain ⟨a, p, q, rfl⟩ : ∃ (a : Fin 1) (p : Fin 2048) (q : Fin 96), y = ix3 a p q := ⟨y 0, y 1, y 2, eq_ix3 y⟩
  refine (pay0 _ a p q).trans ?_
  unfold G0
  congr 1
  · funext k
    blk_ext [iblk0, idx0_0 t, idx0_1 t]
  · refine Fin.ext ?_
    blk_simp [idx0_1 t]
    first | done | simp

end Cert.Proof

end
-- ==== Proof.Scatter.lean ====
/- The programs' scatters that add, read at an element as a sum over the updates. -/
module

public import proofs.«01_k».proof.Proof.Lookup
public import proofs.«01_k».proof.Proof.Gen.KernelIdeal.Frame
public import proofs.«01_k».proof.Proof.Gen.ReferenceIdeal.Run
public import Idealize.ShloMosaic.Lib.Pipeline.ValueKit
public import Idealize.ShloMosaic.Lib.Pointwise
public import Idealize.ShloMosaic.Lib.Routing.Ops
public import Idealize.ShloMosaic.Lib.Routing.OpsPair
public import Idealize.ShloMosaic.Lib.Routing.OpsSet

@[expose] public section

set_option maxRecDepth 16384

noncomputable section

namespace Cert.Proof

open Idealize.ShloMosaic Idealize.ShloMosaic.Routing

/-- Rows scattered and added into `294912` rows: row `r`, column `o` gathers that column of every update whose index word is `r`. -/
theorem rowsAdd294912 (x : FVec Ideal Cert.KernelIdeal.S294912x96 .f32) (idx : IVec Cert.KernelIdeal.S73728x1 32) (u : FVec Ideal Cert.KernelIdeal.S73728x96 .f32) (r : Fin 294912) (o : Fin 96) :
    Host.scatterAdd (F := Ideal) Cert.KernelIdeal.scatter_S294912x96_S73728x1_S73728x96_1_0_0_1 x idx u (ix2 r o)
      = x (ix2 r o) + ∑ k : Fin 73728, if (idx (ix2 k 0)).toInt = (r.val : Int) then u (ix2 k o) else 0 := by
  refine congrArg (x (ix2 r o) + ·) ?_
  refine (Finset.sum_filter _ _).trans ?_
  refine (sum_idx2 _).trans (Finset.sum_congr rfl fun k _ => ?_)
  have e : ∀ o' : Fin 96, (if Cert.KernelIdeal.scatter_S294912x96_S73728x1_S73728x96_1_0_0_1.resultIdx? (ix2 k o') idx = some (ix2 r o) then u (ix2 k o') else 0)
      = if o' = o then (if (idx (ix2 k 0)).toInt = (r.val : Int) then u (ix2 k o) else 0) else 0 := by
    intro o'
    by_cases ho : o' = o
    · subst ho
      rw [if_pos rfl]
      exact if_congr ((rows294912 idx k o' r o').trans (and_iff_left rfl)) rfl rfl
    · rw [if_neg ho, if_neg fun h => ho ((rows294912 idx k o' r o).1 h).2]
  refine (Finset.sum_congr rfl fun o' _ => e o').trans ?_
  rw [Finset.sum_ite_eq' Finset.univ o, if_pos (Finset.mem_univ o)]

/-- Entries scattered and added into `294912`: entry `r` gathers every update whose index word is `r`. -/
theorem entriesAdd294912 (x : FVec Ideal Cert.KernelIdeal.S294912 .f32) (idx : IVec Cert.KernelIdeal.S73728x1 32) (u : FVec Ideal Cert.KernelIdeal.S73728 .f32) (r : Fin 294912) :
    Host.scatterAdd (F := Ideal) Cert.KernelIdeal.scatter_S294912_S73728x1_S73728_n_0_0_1 x idx u (ix1 r)
      = x (ix1 r) + ∑ k : Fin 73728, if (idx (ix2 k 0)).toInt = (r.val : Int) then u (ix1 k) else 0 := by
  refine congrArg (x (ix1 r) + ·) ?_
  refine (Finset.sum_filter _ _).trans ?_
  refine (sum_idx1 _).trans (Finset.sum_congr rfl fun k _ => ?_)
  exact if_congr (entries294912 idx k r) rfl rfl

/-- Rows scattered and added into `147456` rows: row `r`, column `o` gathers that column of every update whose index word is `r`. -/
theorem rowsAdd147456 (x : FVec Ideal Cert.ReferenceIdeal.S147456x96 .f32) (idx : IVec Cert.ReferenceIdeal.S36864x1 32) (u : FVec Ideal Cert.ReferenceIdeal.S36864x96 .f32) (r : Fin 147456) (o : Fin 96) :
    Host.scatterAdd (F := Ideal) Cert.ReferenceIdeal.scatter_S147456x96_S36864x1_S36864x96_1_0_0_1 x idx u (ix2 r o)
      = x (ix2 r o) + ∑ k : Fin 36864, if (idx (ix2 k 0)).toInt = (r.val : Int) then u (ix2 k o) else 0 := by
  refine congrArg (x (ix2 r o) + ·) ?_
  refine (Finset.sum_filter _ _).trans ?_
  refine (sum_idx2 _).trans (Finset.sum_congr rfl fun k _ => ?_)
  have e : ∀ o' : Fin 96, (if Cert.ReferenceIdeal.scatter_S147456x96_S36864x1_S36864x96_1_0_0_1.resultIdx? (ix2 k o') idx = some (ix2 r o) then u (ix2 k o') else 0)
      = if o' = o then (if (idx (ix2 k 0)).toInt = (r.val : Int) then u (ix2 k o) else 0) else 0 := by
    intro o'
    by_cases ho : o' = o
    · subst ho
      rw [if_pos rfl]
      exact if_congr ((rows147456 idx k o' r o').trans (and_iff_left rfl)) rfl rfl
    · rw [if_neg ho, if_neg fun h => ho ((rows147456 idx k o' r o).1 h).2]
  refine (Finset.sum_congr rfl fun o' _ => e o').trans ?_
  rw [Finset.sum_ite_eq' Finset.univ o, if_pos (Finset.mem_univ o)]

/-- Entries scattered and added into `147456`: entry `r` gathers every update whose index word is `r`. -/
theorem entriesAdd147456 (x : FVec Ideal Cert.ReferenceIdeal.S147456 .f32) (idx : IVec Cert.ReferenceIdeal.S36864x1 32) (u : FVec Ideal Cert.ReferenceIdeal.S36864 .f32) (r : Fin 147456) :
    Host.scatterAdd (F := Ideal) Cert.ReferenceIdeal.scatter_S147456_S36864x1_S36864_n_0_0_1 x idx u (ix1 r)
      = x (ix1 r) + ∑ k : Fin 36864, if (idx (ix2 k 0)).toInt = (r.val : Int) then u (ix1 k) else 0 := by
  refine congrArg (x (ix1 r) + ·) ?_
  refine (Finset.sum_filter _ _).trans ?_
  refine (sum_idx1 _).trans (Finset.sum_congr rfl fun k _ => ?_)
  exact if_congr (entries147456 idx k r) rfl rfl

end Cert.Proof

end
-- ==== Proof.Host1.lean ====
/- What the kernel's host operations between its grids leave: the tokens' pixel numbers, the gathered tokens, their
   similarities and masks, and the scattered sums and counts. -/
module

public import proofs.«01_k».proof.Proof.Host0
public import proofs.«01_k».proof.Proof.Reg0
public import proofs.«01_k».proof.Proof.Scatter
public import proofs.«01_k».proof.Proof.Gen.KernelIdeal.Frame
public import Idealize.ShloMosaic.Lib.Pipeline.ValueKit
public import Idealize.ShloMosaic.Lib.Pointwise
public import Idealize.ShloMosaic.Lib.StableHlo.RunRead

@[expose] public section

set_option maxRecDepth 16384

noncomputable section

namespace Cert.Proof

open Idealize.ShloMosaic Idealize.SL.Sem Cert.KernelIdeal Cert.KernelIdeal.Gen

variable (m : (ℓ : Loc nD τ sig) → Buf (Elt Ideal) ℓ) (ρ : Dev nD → PrngReg)

/-- The rows of a table at a list of row words, as the kernel's host code reads them: negative words wrapped, words out of
    range answered by a filler. -/
def takeRows (x : FVec Ideal S294912x96 .f32) (i : IVec S73728 32) : FVec Ideal S73728x96 .f32 :=
  let w : IVec S73728x1 32 := broadcastInDim S73728x1 ![0] bcast_S73728_S73728x1_0
    (select (cmpi .slt i (broadcastInDim S73728 ![] bcast_S_S73728 (constantI S_ 32 0#32)))
      (addi i (broadcastInDim S73728 ![] bcast_S_S73728 (constantI S_ 32 294912#32))) i)
  select (broadcastInDim S73728x96 ![0] bcast_S73728_S73728x96_0
      (Host.reduce IntOp.andi (andi (cmpi .sge w (broadcastInDim S73728x1 ![] bcast_S_S73728x1 (constantI S_ 32 0#32)))
        (cmpi .sle w (broadcastInDim S73728x1 ![0, 1] bcast_S1x1_S73728x1_0_1 (broadcastInDim S1x1 ![1] bcast_S1_S1x1_1 (constantI S1 32 294911#32)))))
        (constantI S_ 1 1#1) reducesTo_S73728x1_S73728_d1 h_S_))
    (Host.gather gather_S294912x96_S73728x1_S73728x96_1_0_n_n_0_1_196 x w)
    (broadcastInDim S73728x96 ![] bcast_S_S73728x96 (constant (F := Ideal) S_ .f32 0x7FC00000#32))

theorem take_tail (V : Valuation τ sig (Elt Ideal)) : (StableHlo.after hostOps1_1 V (Proc.devRef .tc main_v32) : FVec Ideal S73728x96 .f32)
    = takeRows (V (Proc.devRef .tc main_v31)) (V (Proc.devRef .tc main_v30)) := by
  after_reads_simp
  simp -implicitDefEqProofs only [StableHlo.TRef.toBuf, StableHlo.TRef.ofBuf, cast_cast, cast_eq]
  rfl

theorem takeRows_at (x : FVec Ideal S294912x96 .f32) (i : IVec S73728 32) (n : Fin 73728) (o : Fin 96) (r : Fin 294912)
    (h : i (ix1 n) = BitVec.ofNat 32 r.val) : takeRows x i (ix2 n o) = x (ix2 r o) := by
  unfold takeRows
  pointwise
  have hr := r.isLt
  rw [h, word_wrap (by omega), word_nonneg (by omega), word_le (n := 294911) (by omega) (by omega)]
  refine (congrArg (fun z => Scalar.select z _ _) (fold_one _)).trans ?_
  refine Eq.trans (b := Host.gather gather_S294912x96_S73728x1_S73728x96_1_0_n_n_0_1_196 x _ (ix2 n o)) rfl ?_
  refine Routing.gather_row _ rfl rfl rfl rfl rfl x _ n o r ?_ (by norm_num)
  pointwise
  rw [h, word_wrap (by omega)]

theorem v30_at (c : Dev nD) (b : Fin 2) (k : Fin 576) (t : Fin 64) (n : Fin 73728) (hn : n.val = b.val * 36864 + k.val * 64 + t.val) :
    (W3 m ρ c (Proc.devRef .tc main_v30) : IVec S73728 32) (ix1 n)
      = IntOp.addi (aIdx m c (ix3 b k t)) (IntOp.muli (BitVec.ofNat 32 b.val) 147456#32) := by
  after_reads_simp
  pointwise
  have e1 : (⟨n.val / 36864, by omega⟩ : Fin 2) = b := Fin.ext (by simp only; omega)
  have e2 : (⟨n.val % 36864 / 64, by omega⟩ : Fin 576) = k := Fin.ext (by simp only; omega)
  have e3 : (⟨n.val % 36864 % 64, by omega⟩ : Fin 64) = t := Fin.ext (by simp only; omega)
  have e4 : n.val / 36864 = b.val := by omega
  rw [e1, e2, e3, e4, W2_args m ρ c main_arg8 (by decide)]

theorem v31_at (c : Dev nD) (n : Fin 294912) (o : Fin 96) : (W3 m ρ c (Proc.devRef .tc main_v31) : FVec Ideal S294912x96 .f32) (ix2 n o)
    = (W2 m ρ c (Proc.devRef .tc main_v22) : FVec Ideal S2x147456x96 .f32) (ix3 ⟨n.val / 147456, by omega⟩ ⟨n.val % 147456, by omega⟩ o) := by
  after_reads_simp
  pointwise

theorem v33_at (c : Dev nD) (b : Fin 2) (k : Fin 576) (t : Fin 64) (i : Fin 288) (r : Fin 256) (hn : i.val * 256 + r.val = b.val * 36864 + k.val * 64 + t.val) :
    (W5 m ρ c (Proc.devRef .tc main_v33) : FVec Ideal S288x1x256 .f32) (ix3 i 0 r) = aSim m c (ix3 b k t) := by
  after_reads_simp
  pointwise
  have e1 : (⟨i.val / 144, by omega⟩ : Fin 2) = b := Fin.ext (by simp only; omega)
  have e2 : (⟨i.val % 144 * 4 + r.val / 64, by omega⟩ : Fin 576) = k := Fin.ext (by simp only; omega)
  have e3 : (⟨r.val % 64, by omega⟩ : Fin 64) = t := Fin.ext (by simp only; omega)
  rw [e1, e2, e3, W2_args m ρ c main_arg1 (by decide)]

theorem v34_at (c : Dev nD) (b : Fin 2) (k : Fin 576) (t : Fin 64) (i : Fin 288) (r : Fin 256) (hn : i.val * 256 + r.val = b.val * 36864 + k.val * 64 + t.val) :
    (W5 m ρ c (Proc.devRef .tc main_v34) : FVec Ideal S288x1x256 .f32) (ix3 i 0 r) = aMask m c (ix3 b k t) := by
  after_reads_simp
  pointwise
  have e1 : (⟨i.val / 144, by omega⟩ : Fin 2) = b := Fin.ext (by simp only; omega)
  have e2 : (⟨i.val % 144 * 4 + r.val / 64, by omega⟩ : Fin 576) = k := Fin.ext (by simp only; omega)
  have e3 : (⟨r.val % 64, by omega⟩ : Fin 64) = t := Fin.ext (by simp only; omega)
  rw [e1, e2, e3, W2_args m ρ c main_arg2 (by decide)]

/-- The second grid's results, and the tokens' row words, as the host code after that grid finds them. -/
abbrev grid1 (c : Dev nD) : FVec Ideal S73728x96 .f32 := W6 m ρ c (Proc.devRef .tc main_v35)
abbrev rowWord (c : Dev nD) : IVec S73728 32 := W6 m ρ c (Proc.devRef .tc main_v30)

theorem v43_at (c : Dev nD) (b : Fin 2) (p : Fin 147456) (o : Fin 96) :
    (W7 m ρ c (Proc.devRef .tc main_v43) : FVec Ideal S2x147456x96 .f32) (ix3 b p o)
      = ∑ n : Fin 73728, if (rowWord m ρ c (ix1 n)).toInt = ((b.val * 147456 + p.val : Nat) : Int) then grid1 m ρ c (ix2 n o) else 0 := by
  after_reads_simp
  pointwise
  refine (rowsAdd294912 _ _ _ _ _).trans ?_
  pointwise

theorem v44_at (c : Dev nD) (b : Fin 2) (p : Fin 147456) :
    (W7 m ρ c (Proc.devRef .tc main_v44) : FVec Ideal S2x147456x1 .f32) (ix3 b p 0)
      = ∑ n : Fin 73728, if (rowWord m ρ c (ix1 n)).toInt = ((b.val * 147456 + p.val : Nat) : Int) then (1 : EReal) else 0 := by
  after_reads_simp
  pointwise
  refine (entriesAdd294912 _ _ _ _).trans ?_
  pointwise

theorem v45_at (c : Dev nD) (o : Fin 96) : (W7 m ρ c (Proc.devRef .tc main_v45) : FVec Ideal S1x96 .f32) (ix2 0 o)
      = (W6 m ρ c (Proc.devRef .tc main_v13) : FVec Ideal S96 .f32) (ix1 o) := by
  after_reads_simp
  pointwise

theorem v47_at (c : Dev nD) (b : Fin 2) (o : Fin 96) (y x : Fin 384) : (W9 m ρ c (Proc.devRef .tc main_v47) : FVec Ideal S2x96x384x384 .f32) (ix4 b o y x)
      = (W8 m ρ c (Proc.devRef .tc main_v46) : FVec Ideal S2x96x147456 .f32) (ix3 b o ⟨y.val * 384 + x.val, by omega⟩) := by
  after_reads_simp
  pointwise

end Cert.Proof

end
-- ==== Proof.Reg1.lean ====
/- The second grid of the kernel: attention among the 64 tokens of each superpixel. -/
module

public import proofs.«01_k».proof.Proof.Spec
public import proofs.«01_k».proof.Proof.Gen.KernelIdeal.Frame
public import Idealize.ShloMosaic.Lib.Pipeline.ValueKit
public import Idealize.ShloMosaic.Lib.Pointwise

@[expose] public section

set_option maxRecDepth 16384

noncomputable section

namespace Cert.Proof

open Idealize.ShloMosaic Idealize.SL.Sem Cert.KernelIdeal Cert.KernelIdeal.Gen

/-- The score of a kept pair, and of one that is not. -/
def score (b : BitVec 1) (d : EReal) : EReal :=
  Scalar.select b (Named.named (F := Ideal) (φ := .f32) κ "scale" 0xBE3504F3#32 * d) (Named.named (F := Ideal) (φ := .f32) κ "mask" 0xCE6E6B28#32)

theorem hd_zero (e : Fin 32) : hd 0 e = ⟨e.val, by omega⟩ := Fin.ext (by simp [hd])
theorem hd_one (e : Fin 32) : hd 1 e = ⟨32 + e.val, by omega⟩ := Fin.ext (by simp [hd])
theorem hd_two (e : Fin 32) : hd 2 e = ⟨64 + e.val, by omega⟩ := Fin.ext (by simp [hd])

/-- One head of the tile's attention, before the last scaling. -/
def headOut (kp : IVec S256x256 1) (q : FVec Ideal S256x96 .f32) (k : FVec Ideal S96x256 .f32) (w : FVec Ideal S256x96 .f32)
    (h : Fin 3) (t : Fin 256) (d : Fin 32) : EReal :=
  attend (fun s : Fin 256 => score (kp (ix2 t s)) (dist (fun e => q (ix2 t (hd h e))) (fun e => k (ix2 (hd h e) s))))
    (fun s => w (ix2 s (hd h d)))

theorem head0 (v10 : FVec Ideal S256x96 .f32) (v18 : FVec Ideal S96x256 .f32) (v26 : FVec Ideal S256x96 .f32)
    (v29 : FVec Ideal S256x1 .f32) (v32 : FVec Ideal S1x256 .f32) (v57 : IVec S256x256 32) (v60 : IVec S256x256 32)
    (v79 : IVec S256x256 1) (v81 : IVec S256x256 32) (t : Fin 256) (d : Fin 32) :
    k1_pay15 (F := Ideal) v10 v18 v26 v29 v32 v57 v60 v79 v81 (ix2 t d)
      = headOut (k1_pay13 v32 v57 v60 v79 v81) v10 v18 (k1_pay14 v26 v29) 0 t d := by
  unfold headOut score
  simp only [hd_zero]
  unfold k1_pay15
  generalize k1_pay13 v32 v57 v60 v79 v81 = kp
  generalize k1_pay14 v26 v29 = w
  pointwise
  rfl

theorem head1 (v10 : FVec Ideal S256x96 .f32) (v18 : FVec Ideal S96x256 .f32) (kp : IVec S256x256 1)
    (w : FVec Ideal S256x96 .f32) (t : Fin 256) (d : Fin 32) :
    k1_pay20 (F := Ideal) kp w (k1_pay16 v10) (k1_pay17 v18) (k1_pay18 v10) (k1_pay19 v18) (ix2 t d)
      = headOut kp v10 v18 w 1 t d := by
  unfold headOut score
  simp only [hd_one]
  pointwise [k1_pay20, k1_pay16, k1_pay17, k1_pay18, k1_pay19]
  rfl

theorem last (v10 : FVec Ideal S256x96 .f32) (v18 : FVec Ideal S96x256 .f32) (kp : IVec S256x256 1)
    (w : FVec Ideal S256x96 .f32) (v29 : FVec Ideal S256x1 .f32) (a b : FVec Ideal S256x32 .f32) (t : Fin 256) (o : Fin 96) :
    k1_pay1 (F := Ideal) v29 kp w a b (k1_pay21 v10 v18) (k1_pay22 (F := Ideal)) (ix2 t o)
      = v29 (ix2 t 0) * (if h0 : o.val < 32 then a (ix2 t ⟨o.val, h0⟩) else
          if h1 : o.val - 32 < 32 then b (ix2 t ⟨o.val - 32, h1⟩) else headOut kp v10 v18 w 2 t ⟨o.val - 64, by omega⟩) := by
  unfold headOut score
  simp only [hd_two]
  pointwise [k1_pay1, k1_pay21, k1_pay22]
  rfl

theorem tileWord : ∀ t : Fin 256, Scalar.select
          (IntOp.andi
            (IntOp.cmpi CmpIPredicate.ne
              (IntOp.subi (BitVec.setWidth 32 (IntOp.cmpi CmpIPredicate.sgt (BitVec.ofNat 32 t.val) 0#32))
                (BitVec.setWidth 32 (IntOp.cmpi CmpIPredicate.slt (BitVec.ofNat 32 t.val) 0#32)))
              (Scalar.subi (Scalar.extui (Scalar.cmpi CmpIPredicate.sgt 64#32 0#32))
                (Scalar.extui (Scalar.cmpi CmpIPredicate.slt 64#32 0#32))))
            (IntOp.cmpi CmpIPredicate.ne (IntOp.remsi ArithUnit.vector (BitVec.ofNat 32 t.val) 64#32) 0#32))
          (IntOp.subi (IntOp.divsi ArithUnit.vector (BitVec.ofNat 32 t.val) 64#32) 1#32)
          (IntOp.divsi ArithUnit.vector (BitVec.ofNat 32 t.val) 64#32) = BitVec.ofNat 32 (t.val / 64) := by decide +kernel

theorem keep (t s : Fin 256) (x0 : Vec Ideal S256x96 .f32) (x1 : Vec Ideal S1x1x256 .f32) (x2 : Vec Ideal S1x1x256 .f32)
    (x3 : Vec Ideal S96x96 .f32) (x4 : Vec Ideal S96x96 .f32) (x5 : Vec Ideal S96x96 .f32) (x6 : Vec Ideal S8x96 .f32) :
    k1_pay32 (F := Ideal) x0 x1 x2 x3 x4 x5 x6 (ix2 t s)
      = BitVec.ofBool (decide (t.val / 64 = s.val / 64 ∧ 0 < x2 (ix3 0 0 s))) := by
  unfold_payloads
  pointwise
  rw [tileWord, tileWord]
  have h : (BitVec.ofNat 32 (t.val / 64) = BitVec.ofNat 32 (s.val / 64)) ↔ t.val / 64 = s.val / 64 := by
    constructor
    · intro h
      have := congrArg BitVec.toNat h
      simp only [BitVec.toNat_ofNat] at this
      omega
    · exact fun h => by rw [h]
  have hb : (BitVec.ofNat 32 (t.val / 64) == BitVec.ofNat 32 (s.val / 64)) = decide (t.val / 64 = s.val / 64) := by
    rw [Bool.eq_iff_iff]; simp only [beq_iff_eq, decide_eq_true_eq]; exact h
  by_cases h1 : t.val / 64 = s.val / 64 <;> by_cases h2 : (0 : EReal) < x2 (ix3 0 0 s) <;>
    simp [IntOp.cmpi, IntOp.andi, hb, h1, h2]

/-- The tile's queries, keys (channel first) and values, from its tokens, a weight matrix and a bias. -/
theorem query (x0 : Vec Ideal S256x96 .f32) (x1 : Vec Ideal S1x1x256 .f32) (x2 : Vec Ideal S1x1x256 .f32)
    (x3 : Vec Ideal S96x96 .f32) (x4 : Vec Ideal S96x96 .f32) (x5 : Vec Ideal S96x96 .f32) (x6 : Vec Ideal S8x96 .f32)
    (t : Fin 256) (o : Fin 96) :
    k1_pay23 (F := Ideal) x0 x1 x2 x3 x4 x5 x6 (ix2 t o) = ∑ c, x0 (ix2 t c) * x3 (ix2 c o) + x6 (ix2 0 o) := by
  pointwise [k1_pay23, k1_pay3, k1_pay2]

theorem key (x0 : Vec Ideal S256x96 .f32) (x1 : Vec Ideal S1x1x256 .f32) (x2 : Vec Ideal S1x1x256 .f32)
    (x3 : Vec Ideal S96x96 .f32) (x4 : Vec Ideal S96x96 .f32) (x5 : Vec Ideal S96x96 .f32) (x6 : Vec Ideal S8x96 .f32)
    (t : Fin 256) (o : Fin 96) :
    k1_pay24 (F := Ideal) x0 x1 x2 x3 x4 x5 x6 (ix2 o t) = ∑ c, x4 (ix2 o c) * x0 (ix2 t c) + x6 (ix2 1 o) := by
  pointwise [k1_pay24, k1_pay4, k1_pay2]

theorem scaledValue (x0 : Vec Ideal S256x96 .f32) (x1 : Vec Ideal S1x1x256 .f32) (x2 : Vec Ideal S1x1x256 .f32)
    (x3 : Vec Ideal S96x96 .f32) (x4 : Vec Ideal S96x96 .f32) (x5 : Vec Ideal S96x96 .f32) (x6 : Vec Ideal S8x96 .f32)
    (t : Fin 256) (o : Fin 96) :
    k1_pay33 (F := Ideal) x0 x1 x2 x3 x4 x5 x6 (ix2 t o)
      = x1 (ix3 0 0 t) * (∑ c, x0 (ix2 t c) * x5 (ix2 c o) + x6 (ix2 2 o)) := by
  pointwise [k1_pay33, k1_pay25, k1_pay26, k1_pay14, k1_pay5, k1_pay6, k1_pay2]

theorem sim (x0 : Vec Ideal S256x96 .f32) (x1 : Vec Ideal S1x1x256 .f32) (x2 : Vec Ideal S1x1x256 .f32)
    (x3 : Vec Ideal S96x96 .f32) (x4 : Vec Ideal S96x96 .f32) (x5 : Vec Ideal S96x96 .f32) (x6 : Vec Ideal S8x96 .f32)
    (t : Fin 256) : k1_pay26 (F := Ideal) x0 x1 x2 x3 x4 x5 x6 (ix2 t 0) = x1 (ix3 0 0 t) := by
  pointwise [k1_pay26, k1_pay6]

/-- One tile's result, from its tokens, similarities and mask, the three weight matrices and the biases. -/
def tile (x : Fin 256 → Fin 96 → EReal) (sm mk : Fin 256 → EReal) (qw kw vw : Fin 96 → Fin 96 → EReal) (bi : Fin 8 → Fin 96 → EReal)
    (t : Fin 256) (o : Fin 96) : EReal :=
  sm t * attend (fun s : Fin 256 => score (BitVec.ofBool (decide (t.val / 64 = s.val / 64 ∧ 0 < mk s)))
      (dist (fun e => ∑ c, x t c * qw c (hd ⟨o.val / 32, by omega⟩ e) + bi 0 (hd ⟨o.val / 32, by omega⟩ e))
        (fun e => ∑ c, kw (hd ⟨o.val / 32, by omega⟩ e) c * x s c + bi 1 (hd ⟨o.val / 32, by omega⟩ e))))
    (fun s => sm s * (∑ c, x s c * vw c o + bi 2 o))

theorem tile_of_head (x0 : Vec Ideal S256x96 .f32) (x1 : Vec Ideal S1x1x256 .f32) (x2 : Vec Ideal S1x1x256 .f32)
    (x3 : Vec Ideal S96x96 .f32) (x4 : Vec Ideal S96x96 .f32) (x5 : Vec Ideal S96x96 .f32) (x6 : Vec Ideal S8x96 .f32)
    (t : Fin 256) (o : Fin 96) (h : Fin 3) (d : Fin 32) (ho : o.val = 32 * h.val + d.val) :
    x1 (ix3 0 0 t) * headOut (k1_pay32 (F := Ideal) x0 x1 x2 x3 x4 x5 x6) (k1_pay23 (F := Ideal) x0 x1 x2 x3 x4 x5 x6)
      (k1_pay24 (F := Ideal) x0 x1 x2 x3 x4 x5 x6) (k1_pay33 (F := Ideal) x0 x1 x2 x3 x4 x5 x6) h t d
    = tile (fun t c => x0 (ix2 t c)) (fun t => x1 (ix3 0 0 t)) (fun t => x2 (ix3 0 0 t)) (fun a b => x3 (ix2 a b))
        (fun a b => x4 (ix2 a b)) (fun a b => x5 (ix2 a b)) (fun a b => x6 (ix2 a b)) t o := by
  have hh : (⟨o.val / 32, by omega⟩ : Fin 3) = h := Fin.ext (by simp only; omega)
  have ho' : o = hd h d := Fin.ext (by simp only [hd]; omega)
  unfold headOut tile
  simp only [keep, query, key, scaledValue, hh]
  rw [← ho']

theorem out1 (x0 : Vec Ideal S256x96 .f32) (x1 : Vec Ideal S1x1x256 .f32) (x2 : Vec Ideal S1x1x256 .f32)
    (x3 : Vec Ideal S96x96 .f32) (x4 : Vec Ideal S96x96 .f32) (x5 : Vec Ideal S96x96 .f32) (x6 : Vec Ideal S8x96 .f32)
    (t : Fin 256) (o : Fin 96) :
    out1_7 (F := Ideal) x0 x1 x2 x3 x4 x5 x6 (ix2 t o)
    = tile (fun t c => x0 (ix2 t c)) (fun t => x1 (ix3 0 0 t)) (fun t => x2 (ix3 0 0 t)) (fun a b => x3 (ix2 a b))
        (fun a b => x4 (ix2 a b)) (fun a b => x5 (ix2 a b)) (fun a b => x6 (ix2 a b)) t o := by
  unfold out1_7
  refine (congrFun (View.canon_unit_zero (by funext a; fin_cases a <;> rfl) _ _) _).trans ?_
  refine (last _ _ _ _ _ _ _ t o).trans ?_
  rw [sim]
  split
  · rename_i h0
    refine (congrArg (_ * ·) (head0 _ _ _ _ _ _ _ _ _ t ⟨o.val, h0⟩)).trans ?_
    exact tile_of_head x0 x1 x2 x3 x4 x5 x6 t o 0 ⟨o.val, h0⟩ (by simp)
  · rename_i h0
    split
    · rename_i h1
      rw [head1]
      exact tile_of_head x0 x1 x2 x3 x4 x5 x6 t o 1 ⟨o.val - 32, h1⟩ (by simp; omega)
    · rename_i h1
      exact tile_of_head x0 x1 x2 x3 x4 x5 x6 t o 2 ⟨o.val - 64, by omega⟩ (by simp; omega)

end Cert.Proof

end
-- ==== Proof.Reg1Arr.lean ====
/- The second grid of the kernel: its result array as a whole. -/
module

public import proofs.«01_k».proof.Proof.Reg1
public import proofs.«01_k».proof.Proof.Gen.KernelIdeal.Frame
public import Idealize.ShloMosaic.Lib.Pipeline.ValueKit
public import Idealize.ShloMosaic.Lib.Pointwise

@[expose] public section

set_option maxRecDepth 16384

noncomputable section

namespace Cert.Proof

open Idealize.ShloMosaic Idealize.SL.Sem Cert.KernelIdeal Cert.KernelIdeal.Gen

/-- One token's result, from all tokens of its tile. -/
def tileAt (X : FVec Ideal S73728x96 .f32) (S M : FVec Ideal S288x1x256 .f32) (QW KW VW : FVec Ideal S96x96 .f32)
    (Bi : FVec Ideal S8x96 .f32) (b : Fin 288) (r : Fin 256) (o : Fin 96) : EReal :=
  tile (fun t c => X (ix2 ⟨b.val * 256 + t.val, by omega⟩ c)) (fun t => S (ix3 b 0 t)) (fun t => M (ix3 b 0 t))
    (fun a b => QW (ix2 a b)) (fun a b => KW (ix2 a b)) (fun a b => VW (ix2 a b)) (fun a b => Bi (ix2 a b)) r o

/-- One token's result, by the token's number. -/
def tokenAt (X : FVec Ideal S73728x96 .f32) (S M : FVec Ideal S288x1x256 .f32) (QW KW VW : FVec Ideal S96x96 .f32)
    (Bi : FVec Ideal S8x96 .f32) (n : Fin 73728) (o : Fin 96) : EReal :=
  tileAt X S M QW KW VW Bi ⟨n.val / 256, by omega⟩ ⟨n.val % 256, by omega⟩ o

/-- The second grid's result array, from the arrays it reads: the gathered tokens, their similarities and masks, the query,
    key and value weights, and the three biases. -/
def G1 (X : FVec Ideal S73728x96 .f32) (S M : FVec Ideal S288x1x256 .f32) (QW KW VW : FVec Ideal S96x96 .f32)
    (Bi : FVec Ideal S8x96 .f32) : FVec Ideal S73728x96 .f32 :=
  fun i => tokenAt X S M QW KW VW Bi (i 0) (i 1)

theorem idx1_0 : ∀ t : Fin cfg1.N, (cfg1.win 0).index t = ![t.val, 0] := by decide +kernel
theorem idx1_1 : ∀ t : Fin cfg1.N, (cfg1.win 1).index t = ![t.val, 0, 0] := by decide +kernel
theorem idx1_2 : ∀ t : Fin cfg1.N, (cfg1.win 2).index t = ![t.val, 0, 0] := by decide +kernel
theorem idx1_3 : ∀ t : Fin cfg1.N, (cfg1.win 3).index t = ![0, 0] := by decide +kernel
theorem idx1_4 : ∀ t : Fin cfg1.N, (cfg1.win 4).index t = ![0, 0] := by decide +kernel
theorem idx1_5 : ∀ t : Fin cfg1.N, (cfg1.win 5).index t = ![0, 0] := by decide +kernel
theorem idx1_6 : ∀ t : Fin cfg1.N, (cfg1.win 6).index t = ![0, 0] := by decide +kernel
theorem idx1_7 : ∀ t : Fin cfg1.N, (cfg1.win 7).index t = ![t.val, 0] := by decide +kernel

variable (V : (c : Dev nD) → (b : Ref sig .tc) → Buf (Elt Ideal) (c.tc.loc b : Loc nD τ sig))

theorem emb7_0 (t : Fin cfg1.N) (r : Fin 256) (o : Fin 96) :
    (((cfg1.win 7).blk t).view.emb (ix2 r o) 0).val = t.val * 256 + r.val := by
  blk_simp [idx1_7 t]

theorem emb7_1 (t : Fin cfg1.N) (r : Fin 256) (o : Fin 96) :
    (((cfg1.win 7).blk t).view.emb (ix2 r o) 1).val = o.val := by
  blk_simp [idx1_7 t]
  first | done | simp

theorem tokenAt_of (X : FVec Ideal S73728x96 .f32) (S M : FVec Ideal S288x1x256 .f32) (QW KW VW : FVec Ideal S96x96 .f32)
    (Bi : FVec Ideal S8x96 .f32) (n : Fin 73728) (o o' : Fin 96) (b : Fin 288) (r : Fin 256)
    (hn : n.val = b.val * 256 + r.val) (ho : o'.val = o.val) :
    tokenAt X S M QW KW VW Bi n o' = tileAt X S M QW KW VW Bi b r o := by
  have h1 : (⟨n.val / 256, by omega⟩ : Fin 288) = b := Fin.ext (by simp only; omega)
  have h2 : (⟨n.val % 256, by omega⟩ : Fin 256) = r := Fin.ext (by simp only; omega)
  unfold tokenAt
  rw [h1, h2, Fin.ext ho]

theorem N1 : cfg1.N = 288 := by decide +kernel

theorem blk0 (c : Dev nD) (t : Fin cfg1.N) (a : Fin 256) (b : Fin 96) (h : t.val * 256 + a.val < 73728) :
    (iblk1 V c 0 t : FVec Ideal S256x96 .f32) (ix2 a b) = (V c main_v32 : FVec Ideal S73728x96 .f32) (ix2 ⟨t.val * 256 + a.val, h⟩ b) := by
  blk_ext [iblk1, idx1_0 t]
theorem blk1 (c : Dev nD) (t : Fin cfg1.N) (a : Fin 256) (h : t.val < 288) :
    (iblk1 V c 1 t : FVec Ideal S1x1x256 .f32) (ix3 0 0 a) = (V c main_v33 : FVec Ideal S288x1x256 .f32) (ix3 ⟨t.val, h⟩ 0 a) := by
  blk_ext [iblk1, idx1_1 t]
theorem blk2 (c : Dev nD) (t : Fin cfg1.N) (a : Fin 256) (h : t.val < 288) :
    (iblk1 V c 2 t : FVec Ideal S1x1x256 .f32) (ix3 0 0 a) = (V c main_v34 : FVec Ideal S288x1x256 .f32) (ix3 ⟨t.val, h⟩ 0 a) := by
  blk_ext [iblk1, idx1_2 t]
theorem blk3 (c : Dev nD) (t : Fin cfg1.N) (a b : Fin 96) :
    (iblk1 V c 3 t : FVec Ideal S96x96 .f32) (ix2 a b) = (V c main_v3 : FVec Ideal S96x96 .f32) (ix2 a b) := by
  blk_ext [iblk1, idx1_3 t]
theorem blk4 (c : Dev nD) (t : Fin cfg1.N) (a b : Fin 96) :
    (iblk1 V c 4 t : FVec Ideal S96x96 .f32) (ix2 a b) = (V c main_v6 : FVec Ideal S96x96 .f32) (ix2 a b) := by
  blk_ext [iblk1, idx1_4 t]
theorem blk5 (c : Dev nD) (t : Fin cfg1.N) (a b : Fin 96) :
    (iblk1 V c 5 t : FVec Ideal S96x96 .f32) (ix2 a b) = (V c main_v10 : FVec Ideal S96x96 .f32) (ix2 a b) := by
  blk_ext [iblk1, idx1_5 t]
theorem blk6 (c : Dev nD) (t : Fin cfg1.N) (a : Fin 8) (b : Fin 96) :
    (iblk1 V c 6 t : FVec Ideal S8x96 .f32) (ix2 a b) = (V c main_v20 : FVec Ideal S8x96 .f32) (ix2 a b) := by
  blk_ext [iblk1, idx1_6 t]

set_option maxHeartbeats 2000000 in
theorem arr1 (c : Dev nD) : (dat1 V c).arrAt 7 cfg1.N
    = G1 (V c main_v32 : FVec Ideal S73728x96 .f32) (V c main_v33 : FVec Ideal S288x1x256 .f32)
        (V c main_v34 : FVec Ideal S288x1x256 .f32) (V c main_v3 : FVec Ideal S96x96 .f32)
        (V c main_v6 : FVec Ideal S96x96 .f32) (V c main_v10 : FVec Ideal S96x96 .f32)
        (V c main_v20 : FVec Ideal S8x96 .f32) := by
  refine (dat1 V c).arrAt_eq_of_covers 7 (G1 (V c main_v32 : FVec Ideal S73728x96 .f32) (V c main_v33 : FVec Ideal S288x1x256 .f32)
        (V c main_v34 : FVec Ideal S288x1x256 .f32) (V c main_v3 : FVec Ideal S96x96 .f32)
        (V c main_v6 : FVec Ideal S96x96 .f32) (V c main_v10 : FVec Ideal S96x96 .f32)
        (V c main_v20 : FVec Ideal S8x96 .f32)) (by decide +kernel) fun t hf y => ?_
  blk_simp
  rw [after1_7]
  obtain ⟨r, o, rfl⟩ : ∃ (r : Fin 256) (o : Fin 96), y = ix2 r o := ⟨y 0, y 1, eq_ix2 y⟩
  refine (out1 _ _ _ _ _ _ _ r o).trans ?_
  have ht : t.val < 288 := lt_of_lt_of_eq t.isLt N1
  refine Eq.trans ?_ (tokenAt_of _ _ _ _ _ _ _ _ o _ ⟨t.val, ht⟩ r (emb7_0 t r o) (emb7_1 t r o)).symm
  unfold tileAt
  have e0 : (fun (t_1 : Fin 256) (c_1 : Fin 96) => (iblk1 V c 0 t : FVec Ideal S256x96 .f32) (ix2 t_1 c_1)) = _ :=
    funext fun a => funext fun b => blk0 V c t a b (by omega)
  have e1 : (fun (a : Fin 256) => (iblk1 V c 1 t : FVec Ideal S1x1x256 .f32) (ix3 0 0 a)) = _ := funext fun a => blk1 V c t a ht
  have e2 : (fun (a : Fin 256) => (iblk1 V c 2 t : FVec Ideal S1x1x256 .f32) (ix3 0 0 a)) = _ := funext fun a => blk2 V c t a ht
  have e3 : (fun (a b : Fin 96) => (iblk1 V c 3 t : FVec Ideal S96x96 .f32) (ix2 a b)) = _ := funext fun a => funext fun b => blk3 V c t a b
  have e4 : (fun (a b : Fin 96) => (iblk1 V c 4 t : FVec Ideal S96x96 .f32) (ix2 a b)) = _ := funext fun a => funext fun b => blk4 V c t a b
  have e5 : (fun (a b : Fin 96) => (iblk1 V c 5 t : FVec Ideal S96x96 .f32) (ix2 a b)) = _ := funext fun a => funext fun b => blk5 V c t a b
  have e6 : (fun (a : Fin 8) (b : Fin 96) => (iblk1 V c 6 t : FVec Ideal S8x96 .f32) (ix2 a b)) = _ := funext fun a => funext fun b => blk6 V c t a b
  refine (congrArg (fun z => tile z _ _ _ _ _ _ r o) e0).trans ?_
  refine (congrArg (fun z => tile _ z _ _ _ _ _ r o) e1).trans ?_
  refine (congrArg (fun z => tile _ _ z _ _ _ _ r o) e2).trans ?_
  refine (congrArg (fun z => tile _ _ _ z _ _ _ r o) e3).trans ?_
  refine (congrArg (fun z => tile _ _ _ _ z _ _ r o) e4).trans ?_
  refine (congrArg (fun z => tile _ _ _ _ _ z _ r o) e5).trans ?_
  exact congrArg (fun z => tile _ _ _ _ _ _ z r o) e6

end Cert.Proof

end
-- ==== Proof.Reg2.lean ====
/- The third grid of the kernel: the scattered mean where a pixel was reached, the pixel’s own value elsewhere. -/
module

public import proofs.«01_k».proof.Proof.Spec
public import proofs.«01_k».proof.Proof.Gen.KernelIdeal.Frame
public import Idealize.ShloMosaic.Lib.Pipeline.ValueKit
public import Idealize.ShloMosaic.Lib.Pointwise

@[expose] public section

set_option maxRecDepth 16384

noncomputable section

namespace Cert.Proof

open Idealize.ShloMosaic Idealize.SL.Sem Cert.KernelIdeal Cert.KernelIdeal.Gen

/-- The third grid's result array, from the arrays it reads: the normalized pixels, the scattered sums and counts, the
    value weights and the value bias. -/
def G2 (X0 : FVec Ideal S2x147456x96 .f32) (X1 : FVec Ideal S2x147456x96 .f32) (X2 : FVec Ideal S2x147456x1 .f32)
    (X3 : FVec Ideal S96x96 .f32) (X4 : FVec Ideal S1x96 .f32) : FVec Ideal S2x96x147456 .f32 :=
  fun i => merged (X1 (ix3 (i 0) (i 2) (i 1))) (X2 (ix3 (i 0) (i 2) 0))
    (∑ k, X0 (ix3 (i 0) (i 2) k) * X3 (ix2 k (i 1)) + X4 (ix2 0 (i 1)))

theorem idx2_0 : ∀ t : Fin cfg2.N, (cfg2.win 0).index t = ![t.val / 72, t.val % 72, 0] := by decide +kernel
theorem idx2_1 : ∀ t : Fin cfg2.N, (cfg2.win 1).index t = ![t.val / 72, t.val % 72, 0] := by decide +kernel
theorem idx2_2 : ∀ t : Fin cfg2.N, (cfg2.win 2).index t = ![t.val / 72, t.val % 72, 0] := by decide +kernel
theorem idx2_3 : ∀ t : Fin cfg2.N, (cfg2.win 3).index t = ![0, 0] := by decide +kernel
theorem idx2_4 : ∀ t : Fin cfg2.N, (cfg2.win 4).index t = ![0, 0] := by decide +kernel
theorem idx2_5 : ∀ t : Fin cfg2.N, (cfg2.win 5).index t = ![t.val / 72, 0, t.val % 72] := by decide +kernel

theorem pay2 (x0 : FVec Ideal S1x2048x96 .f32) (x3 : FVec Ideal S96x96 .f32) (x4 : FVec Ideal S1x96 .f32)
    (x2 : FVec Ideal S1x2048x1 .f32) (x1 : FVec Ideal S1x2048x96 .f32) (a : Fin 1) (c : Fin 96) (p : Fin 2048) :
    k2_pay1 (F := Ideal) x0 x3 x4 x2 x1 (ix3 a c p)
      = merged (x1 (ix3 0 p c)) (x2 (ix3 0 p 0)) (∑ k, x0 (ix3 0 p k) * x3 (ix2 k c) + x4 (ix2 0 c)) := by
  pointwise [k2_pay1]
  rfl

variable (V : (c : Dev nD) → (b : Ref sig .tc) → Buf (Elt Ideal) (c.tc.loc b : Loc nD τ sig))

set_option maxHeartbeats 2000000 in
theorem arr2 (c : Dev nD) : (dat2 V c).arrAt 5 cfg2.N
    = G2 (V c main_v22 : FVec Ideal S2x147456x96 .f32) (V c main_v43 : FVec Ideal S2x147456x96 .f32)
        (V c main_v44 : FVec Ideal S2x147456x1 .f32) (V c main_v10 : FVec Ideal S96x96 .f32)
        (V c main_v45 : FVec Ideal S1x96 .f32) := by
  refine (dat2 V c).arrAt_eq_of_covers 5 (G2 (V c main_v22 : FVec Ideal S2x147456x96 .f32)
        (V c main_v43 : FVec Ideal S2x147456x96 .f32)
        (V c main_v44 : FVec Ideal S2x147456x1 .f32) (V c main_v10 : FVec Ideal S96x96 .f32)
        (V c main_v45 : FVec Ideal S1x96 .f32)) (by decide +kernel) fun t hf y => ?_
  blk_simp
  rw [after2_5]
  frame_out
  obtain ⟨a, c', p, rfl⟩ : ∃ (a : Fin 1) (c' : Fin 96) (p : Fin 2048), y = ix3 a c' p := ⟨y 0, y 1, y 2, eq_ix3 y⟩
  refine (pay2 _ _ _ _ _ a c' p).trans ?_
  unfold G2
  congr 1
  · blk_ext [iblk2, idx2_1 t, idx2_5 t]
  · blk_ext [iblk2, idx2_2 t, idx2_5 t]
  · refine congrArg₂ (· + ·) (Finset.sum_congr rfl fun k _ => congrArg₂ (· * ·) ?_ ?_) ?_
    · blk_ext [iblk2, idx2_0 t, idx2_5 t]
    · blk_ext [iblk2, idx2_3 t, idx2_5 t]
    · blk_ext [iblk2, idx2_4 t, idx2_5 t]

end Cert.Proof

end
-- ==== Proof.KernelValue.lean ====
/- The kernel's result at a batch, channel and pixel, as the value both programs compute. -/
module

public import proofs.«01_k».proof.Proof.Attend
public import proofs.«01_k».proof.Proof.Host1
public import proofs.«01_k».proof.Proof.Reg1Arr
public import proofs.«01_k».proof.Proof.Reg2

@[expose] public section

set_option maxRecDepth 16384

noncomputable section

namespace Cert.Proof

open Idealize.ShloMosaic Idealize.SL.Sem Cert.KernelIdeal Cert.KernelIdeal.Gen

/-- The arrays of a launch, by coordinates; `pix` is the pixel each token's word names. -/
def arraysOf (x : FVec Ideal S2x96x384x384 .f32) (sim mask : FVec Ideal S2x576x64 .f32) (lw lb : FVec Ideal S96 .f32)
    (qw kw vw : FVec Ideal S96x96 .f32) (pix : Fin 2 → Fin 576 → Fin 64 → Fin 147456) : Arrays where
  x b p k := x (ix4 b k ⟨p.val / 384, by omega⟩ ⟨p.val % 384, by omega⟩)
  sim b k t := sim (ix3 b k t)
  mask b k t := mask (ix3 b k t)
  lw k := lw (ix1 k)
  lb k := lb (ix1 k)
  qw o k := qw (ix2 o k)
  kw o k := kw (ix2 o k)
  vw o k := vw (ix2 o k)
  pix := pix

/-- Token `t` of superpixel `k` of a batch, among all tokens. -/
theorem score_eq (p : Prop) [Decidable p] (d : EReal) :
    score (BitVec.ofBool (decide p)) d = if p then Ideal.div (-d) (Ideal.sqrt (Ideal.ofBits .f32 0x42000000#32)) else ⊥ := by
  unfold score
  by_cases h : p
  · rw [if_pos h, decide_eq_true h, ← scale_eq]; rfl
  · rw [if_neg h, decide_eq_false h]; rfl

/-- One token of a tile, when the tile holds the normalized pixels, the similarities and the masks of four superpixels and
    the matrices and biases hold the layer norm's weight and bias. -/
theorem tile_tok (I : Arrays) (h : I.Usable) (x : Fin 256 → Fin 96 → EReal) (sm mk : Fin 256 → EReal) (qw kw vw : Fin 96 → Fin 96 → EReal)
    (bi : Fin 8 → Fin 96 → EReal) (b : Fin 2) (k : Fin 576) (t : Fin 64) (g : Fin 4) (o : Fin 96)
    (hx : ∀ s c, x (blk g s) c = nrm (I.x b (I.pix b k s)) c) (hsm : ∀ s, sm (blk g s) = I.sim b k s) (hmk : ∀ s, mk (blk g s) = I.mask b k s)
    (hxr : ∀ s c, IsReal (x s c))
    (hqw : ∀ c o, qw c o = I.qw o c * I.lw c) (hkw : ∀ o c, kw o c = I.kw o c * I.lw c) (hvw : ∀ c o, vw c o = I.vw o c * I.lw c)
    (hb0 : ∀ o, bi 0 o = ∑ c, I.qw o c * I.lb c) (hb1 : ∀ o, bi 1 o = ∑ c, I.kw o c * I.lb c) (hb2 : ∀ o, bi 2 o = ∑ c, I.vw o c * I.lb c) :
    tile x sm mk qw kw vw bi (blk g t) o = I.tok b k t o := by
  have hQ : ∀ s o, ∑ c, x (blk g s) c * qw c o + bi 0 o = I.lin I.qw b (I.pix b k s) o := by
    intro s o
    simp only [hx, hqw, hb0]
    exact Arrays.lin_fold h _ h.qw _ _ _
  have hK : ∀ s o, ∑ c, kw o c * x (blk g s) c + bi 1 o = I.lin I.kw b (I.pix b k s) o := by
    intro s o
    simp only [hx, hkw, hb1]
    refine Eq.trans (congrArg (· + _) (Finset.sum_congr rfl fun c _ => mul_comm _ _)) ?_
    exact Arrays.lin_fold h _ h.kw _ _ _
  have hV : ∀ s o, ∑ c, x (blk g s) c * vw c o + bi 2 o = I.lin I.vw b (I.pix b k s) o := by
    intro s o
    simp only [hx, hvw, hb2]
    exact Arrays.lin_fold h _ h.vw _ _ _
  have hbl : ∀ s : Fin 64, (blk g s).val / 64 = g.val := fun s => by simp only [blk]; omega
  have hqr : ∀ s o, IsReal (∑ c, x s c * qw c o + bi 0 o) := by
    intro s o
    rw [hb0]
    refine (IsReal.sum _ fun c => (hxr s c).mul ?_).add (IsReal.sum _ fun c => (h.qw o c).mul (h.lb c))
    rw [hqw]; exact (h.qw o c).mul (h.lw c)
  have hkr : ∀ s o, IsReal (∑ c, kw o c * x s c + bi 1 o) := by
    intro s o
    rw [hb1]
    refine (IsReal.sum _ fun c => IsReal.mul ?_ (hxr s c)).add (IsReal.sum _ fun c => (h.kw o c).mul (h.lb c))
    rw [hkw]; exact (h.kw o c).mul (h.lw c)
  have hreal : ∀ d, IsReal d → IsReal (Ideal.div (-d) (Ideal.sqrt (Ideal.ofBits .f32 0x42000000#32))) := by
    intro d hd
    rw [← scale_eq]
    exact IsReal.mul ⟨_, rfl⟩ hd
  unfold tile Arrays.tok
  simp only [score_eq]
  rw [hsm t]
  refine congrArg (I.sim b k t * ·) ?_
  refine (attend_block g _ _ ?_ ?_ ?_).trans ?_
  · intro s hs
    rw [if_neg]
    rintro ⟨e, _⟩
    rw [hbl] at e
    exact hs e.symm
  · obtain ⟨s, hs⟩ := h.kept b k
    refine ⟨s, ?_⟩
    rw [if_pos ⟨(hbl t).trans (hbl s).symm, by rw [hmk]; exact hs⟩]
    exact hreal _ (dist_real _ _ (fun e => hqr _ _) (fun e => hkr _ _))
  · intro s
    split
    · exact (isReal_iff.1 (hreal _ (dist_real _ _ (fun e => hqr _ _) (fun e => hkr _ _)))).2
    · exact bot_ne_top
  · refine congr (congrArg attend ?_) ?_
    · funext s
      unfold Arrays.logit
      have e : ((blk g t).val / 64 = (blk g s).val / 64 ∧ 0 < mk (blk g s)) ↔ 0 < I.mask b k s := by
        rw [hbl, hbl, hmk]; exact ⟨fun z => z.2, fun z => ⟨rfl, z⟩⟩
      simp only [e, hQ, hK]
    · funext s
      rw [hsm, hV]

variable (m : (ℓ : Loc nD τ sig) → Buf (Elt Ideal) ℓ) (ρ : Dev nD → PrngReg)

/-- The arrays of the kernel's launch. -/
abbrev launch (c : Dev nD) (pix : Fin 2 → Fin 576 → Fin 64 → Fin 147456) : Arrays :=
  arraysOf (aX m c) (aSim m c) (aMask m c) (aLw m c) (aLb m c) (aQw m c) (aKw m c) (aVw m c) pix

variable (c : Dev nD) (pix : Fin 2 → Fin 576 → Fin 64 → Fin 147456)

/-- The first grid leaves the normalized pixels. -/
theorem v22_at (b : Fin 2) (p : Fin 147456) (o : Fin 96) : (W2 m ρ c (Proc.devRef .tc main_v22) : FVec Ideal S2x147456x96 .f32) (ix3 b p o)
    = nrm ((launch m c pix).x b p) o := by
  have e : (W2 m ρ c (Proc.devRef .tc main_v22) : FVec Ideal S2x147456x96 .f32) = G0 (W1 m ρ c (Proc.devRef .tc main_v21) : FVec Ideal S2x96x147456 .f32) :=
    (W2_arr m ρ c 1).trans (arr0 _ c)
  rw [e]
  unfold G0
  exact congrArg (nrm · o) (funext fun k => v21_at m ρ c b k p)

/-- A token's row word is its batch's first row plus its pixel. -/
theorem row_word (hpix : ∀ b k t, aIdx m c (ix3 b k t) = BitVec.ofNat 32 (pix b k t).val) (b : Fin 2) (k : Fin 576) (t : Fin 64) (n : Fin 73728)
    (hn : n.val = b.val * 36864 + k.val * 64 + t.val) :
    (W3 m ρ c (Proc.devRef .tc main_v30) : IVec S73728 32) (ix1 n) = BitVec.ofNat 32 (b.val * 147456 + (pix b k t).val) := by
  rw [v30_at m ρ c b k t n hn, hpix]
  have hb := b.isLt
  have hp := (pix b k t).isLt
  refine BitVec.eq_of_toNat_eq ?_
  simp only [IntOp.addi, IntOp.muli, BitVec.toNat_add, BitVec.toNat_mul, BitVec.toNat_ofNat]
  omega

/-- The second grid reads, for each token, its pixel's normalized channels. -/
theorem v32_at (hpix : ∀ b k t, aIdx m c (ix3 b k t) = BitVec.ofNat 32 (pix b k t).val) (b : Fin 2) (k : Fin 576) (t : Fin 64) (n : Fin 73728)
    (hn : n.val = b.val * 36864 + k.val * 64 + t.val) (o : Fin 96) :
    (W5 m ρ c (Proc.devRef .tc main_v32) : FVec Ideal S73728x96 .f32) (ix2 n o) = nrm ((launch m c pix).x b (pix b k t)) o := by
  have e : (W5 m ρ c (Proc.devRef .tc main_v32) : FVec Ideal S73728x96 .f32)
      = takeRows (W3 m ρ c (Proc.devRef .tc main_v31)) (W3 m ρ c (Proc.devRef .tc main_v30)) :=
    (W5_of m ρ c main_v32 (by decide)).trans (take_tail _)
  have hb := b.isLt
  have hp := (pix b k t).isLt
  rw [e, takeRows_at _ _ n o ⟨b.val * 147456 + (pix b k t).val, by omega⟩ (row_word m ρ c pix hpix b k t n hn), v31_at]
  have e1 : (⟨(b.val * 147456 + (pix b k t).val) / 147456, by omega⟩ : Fin 2) = b := Fin.ext (by simp only; omega)
  have e2 : (⟨(b.val * 147456 + (pix b k t).val) % 147456, by omega⟩ : Fin 147456) = pix b k t := Fin.ext (by simp only; omega)
  simp only [e1, e2]
  exact v22_at m ρ c pix b _ o

/-- What a reference the first stretch wrote holds until the second grid. -/
theorem W5_W1 (r : Ref sig .tc) (h2 : ∀ w : Fin cfg0.W, Pipeline.arrRef spec0 w = r → (cfg0.win w).isOut = false) (h3 : r ∉ hostOps1_W) (h4 : r ∉ hostOps1_1_W) (h5 : r ∉ hostOps1_2_W) :
    W5 m ρ c (Proc.devRef .tc r) = W1 m ρ c (Proc.devRef .tc r) :=
  (W5_of m ρ c r h5).trans ((W4_of m ρ c r h4).trans ((W3_of m ρ c r h3).trans (W2_of m ρ c r h2)))

/-- The second grid leaves every token's result. -/
theorem v35_at (hu : (launch m c pix).Usable) (hpix : ∀ b k t, aIdx m c (ix3 b k t) = BitVec.ofNat 32 (pix b k t).val)
    (b : Fin 2) (k : Fin 576) (t : Fin 64) (n : Fin 73728) (hn : n.val = b.val * 36864 + k.val * 64 + t.val) (o : Fin 96) :
    grid1 m ρ c (ix2 n o) = (launch m c pix).tok b k t o := by
  have e : grid1 m ρ c = _ := (W6_arr m ρ c 7).trans (arr1 _ c)
  rw [e]
  have hb := b.isLt
  have hk := k.isLt
  have ht := t.isLt
  have hg : k.val % 4 < 4 := by omega
  have hi : b.val * 144 + k.val / 4 < 288 := by omega
  refine (tokenAt_of _ _ _ _ _ _ _ n o o ⟨b.val * 144 + k.val / 4, hi⟩ (blk ⟨k.val % 4, hg⟩ t) (by simp only [blk]; omega) rfl).trans ?_
  unfold tileAt
  refine tile_tok (launch m c pix) hu _ _ _ _ _ _ _ b k t ⟨k.val % 4, hg⟩ o ?_ ?_ ?_ ?_ ?_ ?_ ?_ ?_ ?_ ?_
  · intro s d
    exact v32_at m ρ c pix hpix b k s _ (by simp only [blk]; have := s.isLt; omega) d
  · intro s
    exact v33_at m ρ c b k s _ _ (by simp only [blk]; have := s.isLt; omega)
  · intro s
    exact v34_at m ρ c b k s _ _ (by simp only [blk]; have := s.isLt; omega)
  · intro s d
    have hs := s.isLt
    refine Eq.subst (motive := IsReal) (v32_at m ρ c pix hpix b ⟨(k.val / 4) * 4 + s.val / 64, by omega⟩ ⟨s.val % 64, by omega⟩
      ⟨(b.val * 144 + k.val / 4) * 256 + s.val, by omega⟩ (by simp only; omega) d).symm (nrm_real _ _)
  · intro d o
    exact (congrFun (W5_W1 m ρ c main_v3 (by decide) (by decide) (by decide) (by decide)) (ix2 d o)).trans (v3_at m ρ c d o)
  · intro o d
    exact (congrFun (W5_W1 m ρ c main_v6 (by decide) (by decide) (by decide) (by decide)) (ix2 o d)).trans (v6_at m ρ c o d)
  · intro d o
    exact (congrFun (W5_W1 m ρ c main_v10 (by decide) (by decide) (by decide) (by decide)) (ix2 d o)).trans (v10_at m ρ c d o)
  · intro o
    exact (congrFun (W5_W1 m ρ c main_v20 (by decide) (by decide) (by decide) (by decide)) (ix2 0 o)).trans (v20_0 m ρ c o)
  · intro o
    exact (congrFun (W5_W1 m ρ c main_v20 (by decide) (by decide) (by decide) (by decide)) (ix2 1 o)).trans (v20_1 m ρ c o)
  · intro o
    exact (congrFun (W5_W1 m ρ c main_v20 (by decide) (by decide) (by decide) (by decide)) (ix2 2 o)).trans (v20_2 m ρ c o)

/-- The row words are what they were before the second grid. -/
theorem rowWord_at (hpix : ∀ b k t, aIdx m c (ix3 b k t) = BitVec.ofNat 32 (pix b k t).val) (b : Fin 2) (k : Fin 576) (t : Fin 64) (n : Fin 73728)
    (hn : n.val = b.val * 36864 + k.val * 64 + t.val) :
    (rowWord m ρ c (ix1 n)).toInt = ((b.val * 147456 + (pix b k t).val : Nat) : Int) := by
  have e : rowWord m ρ c = (W3 m ρ c (Proc.devRef .tc main_v30) : IVec S73728 32) :=
    (W6_of m ρ c main_v30 (by decide)).trans ((W5_of m ρ c main_v30 (by decide)).trans (W4_of m ρ c main_v30 (by decide)))
  rw [e, row_word m ρ c pix hpix b k t n hn]
  have hb := b.isLt
  have hp := (pix b k t).isLt
  exact word_toInt (by omega)

/-- A sum over all tokens whose row word names a pixel of a batch is the sum over that batch's tokens that name the pixel. -/
theorem gather_sum (hpix : ∀ b k t, aIdx m c (ix3 b k t) = BitVec.ofNat 32 (pix b k t).val) (b : Fin 2) (p : Fin 147456) (F : Fin 73728 → EReal)
    (f : Fin 576 → Fin 64 → EReal) (hF : ∀ (k : Fin 576) (t : Fin 64) (n : Fin 73728), n.val = b.val * 36864 + k.val * 64 + t.val → F n = f k t) :
    (∑ n : Fin 73728, if (rowWord m ρ c (ix1 n)).toInt = ((b.val * 147456 + p.val : Nat) : Int) then F n else 0)
      = (launch m c pix).gathered b p f := by
  unfold Arrays.gathered
  have hb := b.isLt
  have hp := p.isLt
  refine sum_batch b _ _ (fun n => ?_) (fun n hn => ?_)
  · have hn := n.isLt
    have e : b.val * 36864 + n.val = b.val * 36864 + (n.val / 64) * 64 + n.val % 64 := by omega
    rw [rowWord_at m ρ c pix hpix b ⟨n.val / 64, by omega⟩ ⟨n.val % 64, by omega⟩ _ e, hF ⟨n.val / 64, by omega⟩ ⟨n.val % 64, by omega⟩ _ e]
    refine if_congr ?_ rfl rfl
    constructor
    · intro h; exact Fin.ext (by change (pix b _ _).val = _; omega)
    · intro h
      have := congrArg Fin.val h
      change (pix b _ _).val = _ at this
      omega
  · have hn' := n.isLt
    rw [rowWord_at m ρ c pix hpix ⟨n.val / 36864, by omega⟩ ⟨n.val % 36864 / 64, by omega⟩ ⟨n.val % 64, by omega⟩ n (by simp only; omega), if_neg]
    have := (pix ⟨n.val / 36864, by omega⟩ ⟨n.val % 36864 / 64, by omega⟩ ⟨n.val % 64, by omega⟩).isLt
    simp only
    intro h
    omega

/-- The kernel's result. -/
theorem kernel_at (hu : (launch m c pix).Usable) (hpix : ∀ b k t, aIdx m c (ix3 b k t) = BitVec.ofNat 32 (pix b k t).val)
    (b : Fin 2) (o : Fin 96) (y x : Fin 384) : (W9 m ρ c (Proc.devRef .tc main_v47) : FVec Ideal S2x96x384x384 .f32) (ix4 b o y x)
      = (launch m c pix).out b o ⟨y.val * 384 + x.val, by omega⟩ := by
  rw [v47_at]
  have e : (W8 m ρ c (Proc.devRef .tc main_v46) : FVec Ideal S2x96x147456 .f32) = _ := (W8_arr m ρ c 5).trans (arr2 _ c)
  rw [e]
  generalize (⟨y.val * 384 + x.val, by omega⟩ : Fin 147456) = p
  unfold G2 Arrays.out
  have e1 : (W7 m ρ c (Proc.devRef .tc main_v43) : FVec Ideal S2x147456x96 .f32) (ix3 b p o) = _ :=
    (v43_at m ρ c b p o).trans (gather_sum m ρ c pix hpix b p _ _ fun k t n hn => v35_at m ρ c pix hu hpix b k t n hn o)
  have e2 : (W7 m ρ c (Proc.devRef .tc main_v44) : FVec Ideal S2x147456x1 .f32) (ix3 b p 0) = _ :=
    (v44_at m ρ c b p).trans (gather_sum m ρ c pix hpix b p _ (fun _ _ => 1) fun k t n hn => rfl)
  have e3 : ∀ k, (W7 m ρ c (Proc.devRef .tc main_v22) : FVec Ideal S2x147456x96 .f32) (ix3 b p k) = nrm ((launch m c pix).x b p) k := fun k =>
    (congrFun ((W7_of m ρ c main_v22 (by decide)).trans ((W6_of m ρ c main_v22 (by decide)).trans ((W5_of m ρ c main_v22 (by decide)).trans
      ((W4_of m ρ c main_v22 (by decide)).trans (W3_of m ρ c main_v22 (by decide)))))) (ix3 b p k)).trans (v22_at m ρ c pix b p k)
  have e4 : ∀ k, (W7 m ρ c (Proc.devRef .tc main_v10) : FVec Ideal S96x96 .f32) (ix2 k o) = aVw m c (ix2 o k) * aLw m c (ix1 k) := fun k =>
    (congrFun ((W7_of m ρ c main_v10 (by decide)).trans ((W6_of m ρ c main_v10 (by decide)).trans
      (W5_W1 m ρ c main_v10 (by decide) (by decide) (by decide) (by decide)))) (ix2 k o)).trans (v10_at m ρ c k o)
  have e5 : (W7 m ρ c (Proc.devRef .tc main_v45) : FVec Ideal S1x96 .f32) (ix2 0 o) = ∑ k, aVw m c (ix2 o k) * aLb m c (ix1 k) :=
    (v45_at m ρ c o).trans ((congrFun ((W6_of m ρ c main_v13 (by decide)).trans
      (W5_W1 m ρ c main_v13 (by decide) (by decide) (by decide) (by decide))) (ix1 o)).trans (v13_at m ρ c o))
  refine congr (congr (congrArg merged e1) e2) ?_
  refine Eq.trans (congr (congrArg HAdd.hAdd (Finset.sum_congr rfl fun k _ => congr (congrArg HMul.hMul (e3 k)) (e4 k))) e5) ?_
  exact Arrays.lin_fold hu _ hu.vw b p o

end Cert.Proof

end
-- ==== Proof.RefRows.lean ====
/- The reference's layer norm, projections and gathers, read at an index. -/
module

public import proofs.«01_k».proof.Proof.KernelValue
public import proofs.«01_k».proof.Proof.Gen.ReferenceIdeal.Run
public import Idealize.ShloMosaic.Lib.Tactic.CleanTypes

@[expose] public section

set_option maxRecDepth 16384

noncomputable section

namespace Cert.Proof.Ref

open Idealize.ShloMosaic Idealize.SL.Sem Cert.ReferenceIdeal Cert.ReferenceIdeal.Gen Cert.ReferenceIdeal.Value

variable (L : Valuation τ sig (Elt Ideal))

/-! The arrays the reference is launched with, by what they hold. -/
abbrev rX : FVec Ideal S2x96x384x384 .f32 := L (Proc.devRef .tc main_arg0)
abbrev rSim : FVec Ideal S2x576x64 .f32 := L (Proc.devRef .tc main_arg1)
abbrev rMask : FVec Ideal S2x576x64 .f32 := L (Proc.devRef .tc main_arg2)
abbrev rLw : FVec Ideal S96 .f32 := L (Proc.devRef .tc main_arg3)
abbrev rLb : FVec Ideal S96 .f32 := L (Proc.devRef .tc main_arg4)
abbrev rQw : FVec Ideal S96x96 .f32 := L (Proc.devRef .tc main_arg5)
abbrev rKw : FVec Ideal S96x96 .f32 := L (Proc.devRef .tc main_arg6)
abbrev rVw : FVec Ideal S96x96 .f32 := L (Proc.devRef .tc main_arg7)
abbrev rIdx : IVec S2x576x64 32 := L (Proc.devRef .tc main_arg8)

variable (pix : Fin 2 → Fin 576 → Fin 64 → Fin 147456)

/-- The arrays of the reference's launch. -/
abbrev launch : Arrays :=
  arraysOf (rX L) (rSim L) (rMask L) (rLw L) (rLb L) (rQw L) (rKw L) (rVw L) pix

/-- The pixels' mean over their channels. -/
theorem mean_at (b : Fin 2) (y x : Fin 384) : (res_main_v3 L : FVec Ideal S2x1x384x384 .f32) (ix4 b 0 y x)
    = mean (fun k => rX L (ix4 b k y x)) := by
  unfold res_main_v3 mean
  clean_types
  pointwise

/-- The centred pixels. -/
theorem centred_at (b : Fin 2) (k : Fin 96) (y x : Fin 384) : (res_main_v5 L : FVec Ideal S2x96x384x384 .f32) (ix4 b k y x)
    = rX L (ix4 b k y x) - mean (fun k => rX L (ix4 b k y x)) := by
  rw [← mean_at]
  unfold res_main_v5
  clean_types
  pointwise

/-- The pixels after the layer norm. -/
theorem norm_at (b : Fin 2) (k : Fin 96) (y x : Fin 384) : (res_main_v23 L : FVec Ideal S2x96x384x384 .f32) (ix4 b k y x)
    = nrm (fun k => rX L (ix4 b k y x)) k * rLw L (ix1 k) + rLb L (ix1 k) := by
  rw [← nrm_div]
  unfold varEps
  have e := fun k => centred_at L b k y x
  have e' := mean_at L b y x
  simp only [← e]
  unfold res_main_v23 mean
  clean_types
  pointwise
  rw [e k, e']

/-- A linear map of the layer norm, with the pixels in one axis. -/
theorem lin_at (w : FVec Ideal S96x96 .f32) (b : Fin 2) (o : Fin 96) (p : Fin 147456) :
    (shapeCast S2x96x147456 (transpose S2x96x384x384 [0, 3, 1, 2] (Host.dotGeneral (F := Ideal) (φ₁ := .f32) (φ₂ := .f32) dot_S2x96x384x384_S96x96_S2x384x384x96_1_1_023_0_n_n none (res_main_v23 L : FVec Ideal S2x96x384x384 .f32) w) transposes_S2x384x384x96_S2x96x384x384_0_3_1_2) shapeCasts_S2x96x384x384_S2x96x147456) (ix3 b o p)
      = (launch L pix).lin (fun o k => w (ix2 o k)) b p o := by
  unfold Arrays.lin
  have e := fun k => norm_at L b k ⟨p.val / 384, by omega⟩ ⟨p.val % 384, by omega⟩
  pointwise
  exact Finset.sum_congr rfl fun k _ => congrArg (· * _) (e k)

/-- The pixels at a list of words per batch, as the reference reads them: negative words wrapped, words out of range answered
    by a filler. -/
def pick (x : FVec Ideal S2x96x147456 .f32) (w : IVec S2x36864x1 32) : FVec Ideal S2x96x36864 .f32 :=
  select (broadcastInDim S2x96x36864 ![0, 2] bcast_S2x36864_S2x96x36864_0_2
      (Host.reduce IntOp.andi (andi (cmpi .sge w (broadcastInDim S2x36864x1 ![] bcast_S_S2x36864x1 (constantI S_ 32 0#32)))
        (cmpi .sle w (broadcastInDim S2x36864x1 ![0, 1, 2] bcast_S1x1x1_S2x36864x1_0_1_2 (broadcastInDim S1x1x1 ![2] bcast_S1_S1x1x1_2 (constantI S1 32 147455#32)))))
        (constantI S_ 1 1#1) reducesTo_S2x36864x1_S2x36864_d2 h_S_))
    (Host.gather gather_S2x96x147456_S2x36864x1_S2x96x36864_1_2_0_0_2_2_1961 x w)
    (broadcastInDim S2x96x36864 ![] bcast_S_S2x96x36864 (constant (F := Ideal) S_ .f32 0x7FC00000#32))

theorem pick_at (x : FVec Ideal S2x96x147456 .f32) (w : IVec S2x36864x1 32) (b : Fin 2) (o : Fin 96) (n : Fin 36864) (p : Fin 147456)
    (h : w (ix3 b n 0) = BitVec.ofNat 32 p.val) : pick x w (ix3 b o n) = x (ix3 b o p) := by
  have hp := p.isLt
  unfold pick
  pointwise
  have hw : ∀ z : Fin 1, w (ix3 b n z) = BitVec.ofNat 32 p.val := fun z => by rw [Subsingleton.elim z 0]; exact h
  have h1 := word_nonneg (r := p.val) (by omega)
  have h2 := word_le (r := p.val) (n := 147455) (by omega) (by omega)
  simp only [hw, h1, h2]
  refine (congrArg (fun z => Scalar.select z _ _) (fold_one _)).trans ?_
  refine Eq.trans (b := Host.gather gather_S2x96x147456_S2x36864x1_S2x96x36864_1_2_0_0_2_2_1961 x w (ix3 b o n)) rfl ?_
  exact take_batch x w b o n p (by rw [h]; exact word_toInt (by omega))

/-- Channels split by head, tokens by superpixel. -/
theorem heads_at (y : FVec Ideal S2x96x36864 .f32) (b : Fin 2) (k : Fin 576) (h : Fin 3) (t : Fin 64) (e : Fin 32) :
    transpose S2x576x3x64x32 [0, 3, 1, 4, 2] (shapeCast S2x3x32x576x64 (shapeCast S2x96x576x64 y shapeCasts_S2x96x36864_S2x96x576x64)
      shapeCasts_S2x96x576x64_S2x3x32x576x64) transposes_S2x3x32x576x64_S2x576x3x64x32_0_3_1_4_2 (ix5 b k h t e)
      = y (ix3 b (hd h e) ⟨k.val * 64 + t.val, by omega⟩) := by
  pointwise
  exact congrArg (fun z => y (ix3 b z _)) (Fin.ext (by simp only [hd]; omega))

section
variable (hpix : ∀ b k t, rIdx L (ix3 b k t) = BitVec.ofNat 32 (pix b k t).val)
include hpix

theorem word0 (b : Fin 2) (k : Fin 576) (t : Fin 64) (n : Fin 36864) (hn : n.val = k.val * 64 + t.val) :
    (res_main_call0_v5 L : IVec S2x36864x1 32) (ix3 b n 0) = BitVec.ofNat 32 (pix b k t).val := by
  unfold res_main_call0_v5 res_main_v31
  clean_types
  pointwise
  have e2 : (⟨n.val / 64, by omega⟩ : Fin 576) = k := Fin.ext (by simp only; omega)
  have e3 : (⟨n.val % 64, by omega⟩ : Fin 64) = t := Fin.ext (by simp only; omega)
  have hp := (pix b k t).isLt
  rw [e2, e3]
  refine (congrArg (fun z => Scalar.select (IntOp.cmpi .slt z 0#32) (IntOp.addi z 147456#32) z) (hpix b k t)).trans ?_
  exact word_wrap (by omega) _

theorem word1 (b : Fin 2) (k : Fin 576) (t : Fin 64) (n : Fin 36864) (hn : n.val = k.val * 64 + t.val) :
    (res_main_call1_v5 L : IVec S2x36864x1 32) (ix3 b n 0) = BitVec.ofNat 32 (pix b k t).val := word0 L pix hpix b k t n hn

theorem word2 (b : Fin 2) (k : Fin 576) (t : Fin 64) (n : Fin 36864) (hn : n.val = k.val * 64 + t.val) :
    (res_main_call2_v5 L : IVec S2x36864x1 32) (ix3 b n 0) = BitVec.ofNat 32 (pix b k t).val := word0 L pix hpix b k t n hn

/-- The queries. -/
theorem query_at (b : Fin 2) (k : Fin 576) (h : Fin 3) (t : Fin 64) (e : Fin 32) :
    (res_main_v35 L : FVec Ideal S2x576x3x64x32 .f32) (ix5 b k h t e) = (launch L pix).lin (launch L pix).qw b (pix b k t) (hd h e) := by
  unfold res_main_v35
  refine (heads_at (pick _ _) b k h t e).trans ?_
  refine (pick_at _ _ b _ _ (pix b k t) (word0 L pix hpix b k t _ rfl)).trans ?_
  exact lin_at L pix (rQw L) b _ _

/-- The keys. -/
theorem key_at (b : Fin 2) (k : Fin 576) (h : Fin 3) (t : Fin 64) (e : Fin 32) :
    (res_main_v41 L : FVec Ideal S2x576x3x64x32 .f32) (ix5 b k h t e) = (launch L pix).lin (launch L pix).kw b (pix b k t) (hd h e) := by
  unfold res_main_v41
  refine (heads_at (pick _ _) b k h t e).trans ?_
  refine (pick_at _ _ b _ _ (pix b k t) (word1 L pix hpix b k t _ rfl)).trans ?_
  exact lin_at L pix (rKw L) b _ _

end

end Cert.Proof.Ref

end
-- ==== Proof.RefTokens.lean ====
/- The reference's attention within a superpixel, read at an index. -/
module

public import proofs.«01_k».proof.Proof.RefRows

@[expose] public section

set_option maxRecDepth 16384

noncomputable section

namespace Cert.Proof.Ref

open Idealize.ShloMosaic Idealize.SL.Sem Cert.ReferenceIdeal Cert.ReferenceIdeal.Gen Cert.ReferenceIdeal.Value

/-- The largest of each row of scores. -/
theorem rowMax_at (x : FVec Ideal S2x576x3x64x64 .f32) (b : Fin 2) (k : Fin 576) (h : Fin 3) (t : Fin 64) :
    Host.reduce FloatOps.maximumf x (constant S_ .f32 0xFF800000#32) reducesTo_S2x576x3x64x64_S2x576x3x64_d4 h_S_ (ix4 b k h t)
      = Finset.fold max (Ideal.ofBits .f32 0xFF800000#32) (fun s : Fin 64 => (x (ix5 b k h t s) : EReal)) Finset.univ := by
  pointwise

/-- The sum of each row. -/
theorem rowSum_at (x : FVec Ideal S2x576x3x64x64 .f32) (b : Fin 2) (k : Fin 576) (h : Fin 3) (t : Fin 64) :
    Host.reduceAdd x (constant S_ .f32 0x00000000#32) reducesTo_S2x576x3x64x64_S2x576x3x64_d4 h_S_ (ix4 b k h t)
      = ∑ s : Fin 64, (x (ix5 b k h t s) : EReal) := by
  pointwise

/-- A value per row, spread over the row. -/
theorem spread_at (x : FVec Ideal S2x576x3x64 .f32) (b : Fin 2) (k : Fin 576) (h : Fin 3) (t s : Fin 64) :
   broadcastInDim S2x576x3x64x64 ![0, 1, 2, 3, 4] bcast_S2x576x3x64x1_S2x576x3x64x64_0_1_2_3_4 (broadcastInDim S2x576x3x64x1 ![0, 1, 2, 3] bcast_S2x576x3x64_S2x576x3x64x1_0_1_2_3 x) (ix5 b k h t s) = x (ix4 b k h t) := by
  pointwise

/-- The exponentials of the scores less each row's largest. -/
def expArr (x : FVec Ideal S2x576x3x64x64 .f32) : FVec Ideal S2x576x3x64x64 .f32 :=
  Host.exp (subf x (broadcastInDim S2x576x3x64x64 ![0, 1, 2, 3, 4] bcast_S2x576x3x64x1_S2x576x3x64x64_0_1_2_3_4 (broadcastInDim S2x576x3x64x1 ![0, 1, 2, 3] bcast_S2x576x3x64_S2x576x3x64x1_0_1_2_3 (maximumf (broadcastInDim S2x576x3x64 ![] bcast_S_S2x576x3x64 (constant S_ .f32 0xFF800000#32)) (Host.reduce FloatOps.maximumf x (constant S_ .f32 0xFF800000#32) reducesTo_S2x576x3x64x64_S2x576x3x64_d4 h_S_)))))

theorem floor_at (y : FVec Ideal S2x576x3x64 .f32) (i : S2x576x3x64.Idx) :
    maximumf (broadcastInDim S2x576x3x64 ![] bcast_S_S2x576x3x64 (constant S_ .f32 0xFF800000#32)) y i = y i := by
  show max (Ideal.ofBits .f32 0xFF800000#32) (y i) = y i
  rw [cNegInf]
  exact max_eq_right bot_le

theorem expSub_at (x y : FVec Ideal S2x576x3x64x64 .f32) (i : S2x576x3x64x64.Idx) :
    Host.exp (subf x y) i = Ideal.exp ((x i : EReal) - y i) := rfl

theorem expArr_at (x : FVec Ideal S2x576x3x64x64 .f32) (b : Fin 2) (k : Fin 576) (h : Fin 3) (t s : Fin 64) :
    expArr x (ix5 b k h t s) = Ideal.exp ((x (ix5 b k h t s) : EReal) -
      (Finset.fold max (Ideal.ofBits .f32 0xFF800000#32) (fun s : Fin 64 => (x (ix5 b k h t s) : EReal)) Finset.univ)) := by
  unfold expArr
  rw [expSub_at, spread_at, floor_at, rowMax_at]

/-! ## The scores -/

/-- The squared length of each row of a head. -/
theorem sqSum_at (q : FVec Ideal S2x576x3x64x32 .f32) (b : Fin 2) (k : Fin 576) (h : Fin 3) (t : Fin 64) :
    Host.reduceAdd (mulf q q) (constant S_ .f32 0x00000000#32) reducesTo_S2x576x3x64x32_S2x576x3x64_d4 h_S_ (ix4 b k h t)
      = ∑ e : Fin 32, (q (ix5 b k h t e) : EReal) * q (ix5 b k h t e) := by
  pointwise

/-- The inner products of one head's rows. -/
theorem inner_at (q k' : FVec Ideal S2x576x3x64x32 .f32) (b : Fin 2) (k : Fin 576) (h : Fin 3) (t s : Fin 64) :
    Host.dotGeneral (F := Ideal) dot_S2x576x3x64x32_S2x576x3x64x32_S2x576x3x64x64_4_4_3_3_012_012 none q k' (ix5 b k h t s)
      = ∑ e : Fin 32, (q (ix5 b k h t e) : EReal) * k' (ix5 b k h s e) := by
  pointwise

/-- A value per key, spread over the queries. -/
theorem spreadKey_at (x : FVec Ideal S2x576x3x64 .f32) (b : Fin 2) (k : Fin 576) (h : Fin 3) (t s : Fin 64) :
    broadcastInDim S2x576x3x64x64 ![0, 1, 2, 3, 4] bcast_S2x576x3x1x64_S2x576x3x64x64_0_1_2_3_4 (broadcastInDim S2x576x3x1x64 ![0, 1, 2, 4] bcast_S2x576x3x64_S2x576x3x1x64_0_1_2_4 x) (ix5 b k h t s) = x (ix4 b k h s) := by
  pointwise

/-- The test of each key's mask. -/
theorem kept_at (mk : FVec Ideal S2x576x64 .f32) (b : Fin 2) (k : Fin 576) (h : Fin 3) (t s : Fin 64) :
    broadcastInDim S2x576x3x64x64 ![0, 1, 2, 3, 4] bcast_S2x576x1x1x64_S2x576x3x64x64_0_1_2_3_4 (cmpf .ogt (broadcastInDim S2x576x1x1x64 ![0, 1, 4] bcast_S2x576x64_S2x576x1x1x64_0_1_4 mk) (broadcastInDim S2x576x1x1x64 ![] bcast_S_S2x576x1x1x64 (constant S_ .f32 0x00000000#32))) (ix5 b k h t s)
      = BitVec.ofBool (decide ((0 : EReal) < mk (ix3 b k s))) := by
  pointwise

/-- The masked scores, from the queries, the keys and the masks. -/
def scoreArr (q k' : FVec Ideal S2x576x3x64x32 .f32) (mk : FVec Ideal S2x576x64 .f32) : FVec Ideal S2x576x3x64x64 .f32 :=
  select (broadcastInDim S2x576x3x64x64 ![0, 1, 2, 3, 4] bcast_S2x576x1x1x64_S2x576x3x64x64_0_1_2_3_4 (cmpf .ogt (broadcastInDim S2x576x1x1x64 ![0, 1, 4] bcast_S2x576x64_S2x576x1x1x64_0_1_4 mk) (broadcastInDim S2x576x1x1x64 ![] bcast_S_S2x576x1x1x64 (constant S_ .f32 0x00000000#32)))) (Host.divf (Host.negf (Host.sqrt (maximumf (subf (addf (broadcastInDim S2x576x3x64x64 ![0, 1, 2, 3, 4] bcast_S2x576x3x64x1_S2x576x3x64x64_0_1_2_3_4 (broadcastInDim S2x576x3x64x1 ![0, 1, 2, 3] bcast_S2x576x3x64_S2x576x3x64x1_0_1_2_3 (Host.reduceAdd (mulf q q) (constant S_ .f32 0x00000000#32) reducesTo_S2x576x3x64x32_S2x576x3x64_d4 h_S_))) (broadcastInDim S2x576x3x64x64 ![0, 1, 2, 3, 4] bcast_S2x576x3x1x64_S2x576x3x64x64_0_1_2_3_4 (broadcastInDim S2x576x3x1x64 ![0, 1, 2, 4] bcast_S2x576x3x64_S2x576x3x1x64_0_1_2_4 (Host.reduceAdd (mulf k' k') (constant S_ .f32 0x00000000#32) reducesTo_S2x576x3x64x32_S2x576x3x64_d4 h_S_)))) (mulf (broadcastInDim S2x576x3x64x64 ![] bcast_S_S2x576x3x64x64 (constant S_ .f32 0x40000000#32)) (Host.dotGeneral dot_S2x576x3x64x32_S2x576x3x64x32_S2x576x3x64x64_4_4_3_3_012_012 none q k'))) (broadcastInDim S2x576x3x64x64 ![] bcast_S_S2x576x3x64x64 (constant S_ .f32 0x2B8CBCCC#32))))) (broadcastInDim S2x576x3x64x64 ![] bcast_S_S2x576x3x64x64 (Host.sqrt (constant S_ .f32 0x42000000#32)))) (broadcastInDim S2x576x3x64x64 ![] bcast_S_S2x576x3x64x64 (id (constant S_ .f32 0xFF800000#32)))

/-- The operations of the score that act index by index. -/
theorem scoreOps_at (c : IVec S2x576x3x64x64 1) (u v w : FVec Ideal S2x576x3x64x64 .f32) (i : S2x576x3x64x64.Idx) :
    select c (Host.divf (Host.negf (Host.sqrt (maximumf (subf (addf u v) (mulf (broadcastInDim S2x576x3x64x64 ![] bcast_S_S2x576x3x64x64 (constant S_ .f32 0x40000000#32)) w)) (broadcastInDim S2x576x3x64x64 ![] bcast_S_S2x576x3x64x64 (constant S_ .f32 0x2B8CBCCC#32))))) (broadcastInDim S2x576x3x64x64 ![] bcast_S_S2x576x3x64x64 (Host.sqrt (constant S_ .f32 0x42000000#32)))) (broadcastInDim S2x576x3x64x64 ![] bcast_S_S2x576x3x64x64 (id (constant S_ .f32 0xFF800000#32))) i
      = Scalar.select (c i) (Ideal.div (-(Ideal.sqrt (max ((u i : EReal) + v i - Ideal.ofBits .f32 0x40000000#32 * w i) (Ideal.ofBits .f32 0x2B8CBCCC#32)))) (Ideal.sqrt (Ideal.ofBits .f32 0x42000000#32)))
        (Ideal.ofBits .f32 0xFF800000#32) := rfl

theorem scoreArr_at (q k' : FVec Ideal S2x576x3x64x32 .f32) (mk : FVec Ideal S2x576x64 .f32) (b : Fin 2) (k : Fin 576) (h : Fin 3) (t s : Fin 64) :
    scoreArr q k' mk (ix5 b k h t s) = if (0 : EReal) < mk (ix3 b k s) then
      Ideal.div (-(dist (fun e => q (ix5 b k h t e)) (fun e => k' (ix5 b k h s e)))) (Ideal.sqrt (Ideal.ofBits .f32 0x42000000#32)) else ⊥ := by
  unfold scoreArr dist
  rw [scoreOps_at, kept_at, spread_at, spreadKey_at, sqSum_at, sqSum_at, inner_at, cNegInf]
  by_cases hm : (0 : EReal) < mk (ix3 b k s)
  · rw [if_pos hm, decide_eq_true hm]; rfl
  · rw [if_neg hm, decide_eq_false hm]; rfl

/-! ## The tokens -/

/-- A value per token, spread over the heads and their channels. -/
theorem spreadTok_at (x : FVec Ideal S2x576x64 .f32) (b : Fin 2) (k : Fin 576) (h : Fin 3) (t : Fin 64) (e : Fin 32) :
    broadcastInDim S2x576x3x64x32 ![0, 1, 2, 3, 4] bcast_S2x576x1x64x1_S2x576x3x64x32_0_1_2_3_4 (broadcastInDim S2x576x1x64x1 ![0, 1, 3] bcast_S2x576x64_S2x576x1x64x1_0_1_3 x) (ix5 b k h t e) = x (ix3 b k t) := by
  pointwise

/-- The weights applied to the values. -/
theorem apply_at (a : FVec Ideal S2x576x3x64x64 .f32) (v : FVec Ideal S2x576x3x64x32 .f32) (b : Fin 2) (k : Fin 576) (h : Fin 3) (t : Fin 64) (e : Fin 32) :
    Host.dotGeneral (F := Ideal) dot_S2x576x3x64x64_S2x576x3x64x32_S2x576x3x64x32_4_3_3_4_012_012 none a v (ix5 b k h t e)
      = ∑ s : Fin 64, (a (ix5 b k h t s) : EReal) * v (ix5 b k h s e) := by
  pointwise

/-- Heads put back into channels, superpixels into one axis of tokens. -/
theorem flat_at (x : FVec Ideal S2x576x3x64x32 .f32) (b : Fin 2) (o : Fin 96) (n : Fin 36864) :
    shapeCast S2x96x36864 (transpose S2x3x32x576x64 [0, 2, 4, 1, 3] x transposes_S2x576x3x64x32_S2x3x32x576x64_0_2_4_1_3) shapeCasts_S2x3x32x576x64_S2x96x36864 (ix3 b o n)
      = x (ix5 b ⟨n.val / 64, by omega⟩ ⟨o.val / 32, by omega⟩ ⟨n.val % 64, by omega⟩ ⟨o.val % 32, by omega⟩) := by
  pointwise

theorem over_at (x y : FVec Ideal S2x576x3x64x64 .f32) (i : S2x576x3x64x64.Idx) : Host.divf x y i = Ideal.div (x i) (y i) := rfl

/-- The softmax's quotient, index by index. -/
theorem quot_at (x : FVec Ideal S2x576x3x64x64 .f32) (b : Fin 2) (k : Fin 576) (h : Fin 3) (t s : Fin 64) :
    Host.divf x (broadcastInDim S2x576x3x64x64 ![0, 1, 2, 3, 4] bcast_S2x576x3x64x1_S2x576x3x64x64_0_1_2_3_4 (broadcastInDim S2x576x3x64x1 ![0, 1, 2, 3] bcast_S2x576x3x64_S2x576x3x64x1_0_1_2_3 (Host.reduceAdd x (constant S_ .f32 0x00000000#32) reducesTo_S2x576x3x64x64_S2x576x3x64_d4 h_S_))) (ix5 b k h t s)
      = Ideal.div (x (ix5 b k h t s)) (∑ r : Fin 64, (x (ix5 b k h t r) : EReal)) := by
  rw [over_at, spread_at, rowSum_at]

/-- The tokens' results from the exponentials, the values and the similarities. -/
def tokArr (x : FVec Ideal S2x576x3x64x64 .f32) (v sm : FVec Ideal S2x576x3x64x32 .f32) : FVec Ideal S2x96x36864 .f32 :=
  shapeCast S2x96x36864 (transpose S2x3x32x576x64 [0, 2, 4, 1, 3] (mulf sm (Host.dotGeneral dot_S2x576x3x64x64_S2x576x3x64x32_S2x576x3x64x32_4_3_3_4_012_012 none (Host.divf x (broadcastInDim S2x576x3x64x64 ![0, 1, 2, 3, 4] bcast_S2x576x3x64x1_S2x576x3x64x64_0_1_2_3_4 (broadcastInDim S2x576x3x64x1 ![0, 1, 2, 3] bcast_S2x576x3x64_S2x576x3x64x1_0_1_2_3 (Host.reduceAdd x (constant S_ .f32 0x00000000#32) reducesTo_S2x576x3x64x64_S2x576x3x64_d4 h_S_)))) (mulf sm v))) transposes_S2x576x3x64x32_S2x3x32x576x64_0_2_4_1_3) shapeCasts_S2x3x32x576x64_S2x96x36864

theorem times_at (x y : FVec Ideal S2x576x3x64x32 .f32) (i : S2x576x3x64x32.Idx) : mulf x y i = ((x i : EReal) * y i : EReal) := rfl

theorem tokArr_at (x : FVec Ideal S2x576x3x64x64 .f32) (v sm : FVec Ideal S2x576x3x64x32 .f32) (b : Fin 2) (o : Fin 96) (n : Fin 36864)
    (k : Fin 576) (t : Fin 64) (h : Fin 3) (e : Fin 32) (hn : n.val = k.val * 64 + t.val) (ho : o.val = 32 * h.val + e.val) :
    tokArr x v sm (ix3 b o n) = (sm (ix5 b k h t e) : EReal) * ∑ s : Fin 64, Ideal.div (x (ix5 b k h t s)) (∑ r : Fin 64, (x (ix5 b k h t r) : EReal))
      * ((sm (ix5 b k h s e) : EReal) * v (ix5 b k h s e)) := by
  have e1 : (⟨n.val / 64, by omega⟩ : Fin 576) = k := Fin.ext (by simp only; omega)
  have e2 : (⟨n.val % 64, by omega⟩ : Fin 64) = t := Fin.ext (by simp only; omega)
  have e3 : (⟨o.val / 32, by omega⟩ : Fin 3) = h := Fin.ext (by simp only; omega)
  have e4 : (⟨o.val % 32, by omega⟩ : Fin 32) = e := Fin.ext (by simp only; omega)
  unfold tokArr
  rw [flat_at, e1, e2, e3, e4, times_at, apply_at]
  refine congrArg (_ * ·) (Finset.sum_congr rfl fun s _ => ?_)
  rw [quot_at, times_at]

/-! ## Both, at the reference's arrays -/

variable (L : Valuation τ sig (Elt Ideal)) (pix : Fin 2 → Fin 576 → Fin 64 → Fin 147456)

theorem scores_eq : (res_main_v71 L : FVec Ideal S2x576x3x64x64 .f32) = scoreArr (res_main_v35 L) (res_main_v41 L) (rMask L) := rfl

theorem exps_eq : (res_main_v78 L : FVec Ideal S2x576x3x64x64 .f32) = expArr (res_main_v71 L) := rfl

/-- The values, split by head. -/
def valArr : FVec Ideal S2x576x3x64x32 .f32 :=
  transpose S2x576x3x64x32 [0, 3, 1, 4, 2] (shapeCast S2x3x32x576x64 (shapeCast S2x96x576x64
      (pick (shapeCast S2x96x147456 (res_main_v29 L : FVec Ideal S2x96x384x384 .f32) shapeCasts_S2x96x384x384_S2x96x147456) (res_main_call2_v5 L)) shapeCasts_S2x96x36864_S2x96x576x64)
      shapeCasts_S2x96x576x64_S2x3x32x576x64) transposes_S2x3x32x576x64_S2x576x3x64x32_0_3_1_4_2

theorem toks_eq : (res_main_v89 L : FVec Ideal S2x96x36864 .f32) = tokArr (res_main_v78 L) (valArr L) (res_main_v84 L) := rfl

section
variable (hpix : ∀ b k t, rIdx L (ix3 b k t) = BitVec.ofNat 32 (pix b k t).val)
include hpix

/-- The values. -/
theorem value_at (b : Fin 2) (k : Fin 576) (h : Fin 3) (t : Fin 64) (e : Fin 32) :
    valArr L (ix5 b k h t e) = (launch L pix).lin (launch L pix).vw b (pix b k t) (hd h e) := by
  unfold valArr
  refine (heads_at (pick _ _) b k h t e).trans ?_
  refine (pick_at _ _ b _ _ (pix b k t) (word2 L pix hpix b k t _ rfl)).trans ?_
  exact lin_at L pix (rVw L) b _ _

/-- The masked scores. -/
theorem logit_at (b : Fin 2) (k : Fin 576) (h : Fin 3) (t s : Fin 64) :
    (res_main_v71 L : FVec Ideal S2x576x3x64x64 .f32) (ix5 b k h t s) = (launch L pix).logit b k t h s := by
  rw [scores_eq, scoreArr_at]
  unfold Arrays.logit
  have hq : (fun e => (res_main_v35 L : FVec Ideal S2x576x3x64x32 .f32) (ix5 b k h t e)) = _ := funext fun e => query_at L pix hpix b k h t e
  have hk : (fun e => (res_main_v41 L : FVec Ideal S2x576x3x64x32 .f32) (ix5 b k h s e)) = _ := funext fun e => key_at L pix hpix b k h s e
  rw [hq, hk]
  rfl

/-- The exponentials of the scores less their maximum. -/
theorem exp_at (b : Fin 2) (k : Fin 576) (h : Fin 3) (t s : Fin 64) :
    (res_main_v78 L : FVec Ideal S2x576x3x64x64 .f32) (ix5 b k h t s) = Ideal.exp ((launch L pix).logit b k t h s
      - Finset.fold max (Ideal.ofBits .f32 0xFF800000#32) (fun s => (launch L pix).logit b k t h s) Finset.univ) := by
  have hl : (fun s => (res_main_v71 L : FVec Ideal S2x576x3x64x64 .f32) (ix5 b k h t s)) = _ := funext fun s => logit_at L pix hpix b k h t s
  rw [exps_eq, expArr_at, hl, logit_at L pix hpix]

/-- Every token's result. -/
theorem token_at (b : Fin 2) (k : Fin 576) (t : Fin 64) (o : Fin 96) (n : Fin 36864) (hn : n.val = k.val * 64 + t.val) :
    (res_main_v89 L : FVec Ideal S2x96x36864 .f32) (ix3 b o n) = (launch L pix).tok b k t o := by
  have hs : ∀ t e, (res_main_v84 L : FVec Ideal S2x576x3x64x32 .f32) (ix5 b k ⟨o.val / 32, by omega⟩ t e) = rSim L (ix3 b k t) :=
    fun t e => spreadTok_at (rSim L) b k _ t e
  have hO : hd ⟨o.val / 32, by omega⟩ ⟨o.val % 32, by omega⟩ = o := Fin.ext (by simp only [hd]; omega)
  rw [toks_eq, tokArr_at _ _ _ b o n k t ⟨o.val / 32, by omega⟩ ⟨o.val % 32, by omega⟩ hn (by simp only; omega)]
  unfold Arrays.tok attend
  refine congr (congrArg HMul.hMul (hs t _)) (Finset.sum_congr rfl fun s _ => ?_)
  refine congr (congrArg HMul.hMul ?_) (congr (congrArg HMul.hMul (hs s _)) ?_)
  · exact congr (congrArg Ideal.div (exp_at L pix hpix b k _ t s)) (Finset.sum_congr rfl fun r _ => exp_at L pix hpix b k _ t r)
  · refine (value_at L pix hpix b k _ s _).trans ?_
    rw [hO]
    rfl

end

end Cert.Proof.Ref

end
-- ==== Proof.RefValue.lean ====
/- The reference's scattered sums and counts and its result, read at an index. -/
module

public import proofs.«01_k».proof.Proof.RefTokens

@[expose] public section

set_option maxRecDepth 16384

noncomputable section

namespace Cert.Proof.Ref

open Idealize.ShloMosaic Idealize.SL.Sem Cert.ReferenceIdeal Cert.ReferenceIdeal.Gen Cert.ReferenceIdeal.Value

/-- One batch's tokens added at the pixels their words name. -/
def sumRows (w : IVec S36864 32) (u : FVec Ideal S96x36864 .f32) : FVec Ideal S1x96x147456 .f32 :=
  broadcastInDim S1x96x147456 ![1, 2] bcast_S96x147456_S1x96x147456_1_2 (transpose S96x147456 [1, 0] (Host.scatterAdd scatter_S147456x96_S36864x1_S36864x96_1_0_0_1 (broadcastInDim S147456x96 ![] bcast_S_S147456x96 (constant S_ .f32 0x00000000#32)) (broadcastInDim S36864x1 ![0] bcast_S36864_S36864x1_0 w) (transpose S36864x96 [1, 0] u transposes_S96x36864_S36864x96_1_0)) transposes_S147456x96_S96x147456_1_0)

theorem sumRows_at (w : IVec S36864 32) (u : FVec Ideal S96x36864 .f32) (o : Fin 96) (p : Fin 147456) :
    sumRows w u (ix3 0 o p) = ∑ n : Fin 36864, if (w (ix1 n)).toInt = (p.val : Int) then (u (ix2 o n) : EReal) else 0 := by
  unfold sumRows
  pointwise
  refine (rowsAdd147456 _ _ _ _ _).trans ?_
  pointwise

/-- One batch's tokens counted at the pixels their words name. -/
def cntRows (w : IVec S36864 32) : FVec Ideal S1x147456 .f32 :=
  broadcastInDim S1x147456 ![1] bcast_S147456_S1x147456_1 (Host.scatterAdd scatter_S147456_S36864x1_S36864_n_0_0_1 (broadcastInDim S147456 ![] bcast_S_S147456 (constant S_ .f32 0x00000000#32)) (broadcastInDim S36864x1 ![0] bcast_S36864_S36864x1_0 w) (broadcastInDim S36864 ![] bcast_S_S36864 (constant S_ .f32 0x3F800000#32)))

theorem cntRows_at (w : IVec S36864 32) (p : Fin 147456) :
    cntRows w (ix2 0 p) = ∑ n : Fin 36864, if (w (ix1 n)).toInt = (p.val : Int) then (1 : EReal) else 0 := by
  unfold cntRows
  pointwise
  refine (entriesAdd147456 _ _ _ _).trans ?_
  pointwise

/-- Two batches' arrays, one after the other. -/
theorem joinRows_at (x y : FVec Ideal S1x96x147456 .f32) (b : Fin 2) (o : Fin 96) (p : Fin 147456) :
    concatenate S2x96x147456 0 [⟨S1x96x147456, x⟩, ⟨S1x96x147456, y⟩] concatenates_S1x96x147456_S1x96x147456_S2x96x147456_d0 (ix3 b o p)
      = if b = 0 then x (ix3 0 o p) else y (ix3 0 o p) := by
  match b with
  | ⟨0, _⟩ => pointwise
  | ⟨1, _⟩ => pointwise

theorem joinCnts_at (x y : FVec Ideal S1x147456 .f32) (b : Fin 2) (p : Fin 147456) :
    concatenate S2x147456 0 [⟨S1x147456, x⟩, ⟨S1x147456, y⟩] concatenates_S1x147456_S1x147456_S2x147456_d0 (ix2 b p)
      = if b = 0 then x (ix2 0 p) else y (ix2 0 p) := by
  match b with
  | ⟨0, _⟩ => pointwise
  | ⟨1, _⟩ => pointwise

theorem batch0_at (x : FVec Ideal S2x96x36864 .f32) (o : Fin 96) (n : Fin 36864) :
    shapeCast S96x36864 (extractStridedSlice S1x96x36864 ![0, 0, 0] x slices_S2x96x36864_S1x96x36864_0_0_0) shapeCasts_S1x96x36864_S96x36864 (ix2 o n) = x (ix3 0 o n) := by
  pointwise

theorem batch1_at (x : FVec Ideal S2x96x36864 .f32) (o : Fin 96) (n : Fin 36864) :
    shapeCast S96x36864 (extractStridedSlice S1x96x36864 ![1, 0, 0] x slices_S2x96x36864_S1x96x36864_1_0_0) shapeCasts_S1x96x36864_S96x36864 (ix2 o n) = x (ix3 1 o n) := by
  pointwise

variable (L : Valuation τ sig (Elt Ideal)) (pix : Fin 2 → Fin 576 → Fin 64 → Fin 147456)

theorem row0_at (n : Fin 36864) : (res_main_v94 L : IVec S36864 32) (ix1 n) = rIdx L (ix3 0 ⟨n.val / 64, by omega⟩ ⟨n.val % 64, by omega⟩) := by
  unfold res_main_v94 res_main_v90
  clean_types
  pointwise

theorem row1_at (n : Fin 36864) : (res_main_v107 L : IVec S36864 32) (ix1 n) = rIdx L (ix3 1 ⟨n.val / 64, by omega⟩ ⟨n.val % 64, by omega⟩) := by
  unfold res_main_v107 res_main_v90
  clean_types
  pointwise

/-- The counts, spread over the channels. -/
theorem spreadCnt_at (x : FVec Ideal S2x147456 .f32) (b : Fin 2) (o : Fin 96) (p : Fin 147456) :
    broadcastInDim S2x96x147456 ![0, 1, 2] bcast_S2x1x147456_S2x96x147456_0_1_2 (broadcastInDim S2x1x147456 ![0, 2] bcast_S2x147456_S2x1x147456_0_2 x) (ix3 b o p) = x (ix2 b p) := by
  pointwise

/-- Pixels in two axes, from pixels in one. -/
theorem image_at (x : FVec Ideal S2x96x147456 .f32) (b : Fin 2) (o : Fin 96) (y z : Fin 384) :
    shapeCast S2x96x384x384 x shapeCasts_S2x96x147456_S2x96x384x384 (ix4 b o y z) = x (ix3 b o ⟨y.val * 384 + z.val, by omega⟩) := by
  pointwise

/-- Pixels in one axis, from pixels in two. -/
theorem pixels_at (x : FVec Ideal S2x96x384x384 .f32) (b : Fin 2) (o : Fin 96) (y z : Fin 384) :
    shapeCast S2x96x147456 x shapeCasts_S2x96x384x384_S2x96x147456 (ix3 b o ⟨y.val * 384 + z.val, by omega⟩) = x (ix4 b o y z) := by
  have e1 : (⟨(y.val * 384 + z.val) / 384, by omega⟩ : Fin 384) = y := Fin.ext (by simp only; omega)
  have e2 : (⟨(y.val * 384 + z.val) % 384, by omega⟩ : Fin 384) = z := Fin.ext (by simp only; omega)
  pointwise
  first | done | simp only [e1, e2]

/-- The test of a count. -/
theorem test_at (x : FVec Ideal S2x96x384x384 .f32) (b : Fin 2) (o : Fin 96) (y z : Fin 384) :
    uitofp (F := Ideal) .f32 (cmpf .ogt x (broadcastInDim S2x96x384x384 ![] bcast_S_S2x96x384x384 (constant S_ .f32 0x3727C5AC#32))) (ix4 b o y z)
      = if Ideal.ofBits .f32 0x3727C5AC#32 < (x (ix4 b o y z) : EReal) then 1 else 0 := by
  pointwise
  by_cases h : Ideal.ofBits .f32 0x3727C5AC#32 < (x (ix4 b o y z) : EReal)
  · rw [if_pos h, decide_eq_true h]
    show (((1 : ℕ) : ℝ) : EReal) = 1
    simp
  · rw [if_neg h, decide_eq_false h]
    show (((0 : ℕ) : ℝ) : EReal) = 0
    simp

/-- The scattered sums of both batches. -/
def sums : FVec Ideal S2x96x147456 .f32 :=
  concatenate S2x96x147456 0 [⟨S1x96x147456, sumRows (res_main_v94 L) (shapeCast S96x36864 (extractStridedSlice S1x96x36864 ![0, 0, 0] (res_main_v89 L : FVec Ideal S2x96x36864 .f32) slices_S2x96x36864_S1x96x36864_0_0_0) shapeCasts_S1x96x36864_S96x36864)⟩,
    ⟨S1x96x147456, sumRows (res_main_v107 L) (shapeCast S96x36864 (extractStridedSlice S1x96x36864 ![1, 0, 0] (res_main_v89 L : FVec Ideal S2x96x36864 .f32) slices_S2x96x36864_S1x96x36864_1_0_0) shapeCasts_S1x96x36864_S96x36864)⟩] concatenates_S1x96x147456_S1x96x147456_S2x96x147456_d0

/-- The counts of both batches. -/
def counts : FVec Ideal S2x147456 .f32 :=
  concatenate S2x147456 0 [⟨S1x147456, cntRows (res_main_v94 L)⟩, ⟨S1x147456, cntRows (res_main_v107 L)⟩] concatenates_S1x147456_S1x147456_S2x147456_d0

section
variable (hpix : ∀ b k t, rIdx L (ix3 b k t) = BitVec.ofNat 32 (pix b k t).val)
include hpix

/-- A token's word names a pixel exactly when the token's pixel is that pixel. -/
theorem names_iff (b : Fin 2) (k : Fin 576) (t : Fin 64) (p : Fin 147456) : (rIdx L (ix3 b k t)).toInt = (p.val : Int) ↔ pix b k t = p := by
  have hp := (pix b k t).isLt
  rw [hpix, word_toInt (by omega)]
  constructor
  · intro h; exact Fin.ext (by omega)
  · intro h; rw [h]

theorem sums_at (b : Fin 2) (o : Fin 96) (p : Fin 147456) :
    sums L (ix3 b o p) = (launch L pix).gathered b p fun k t => (launch L pix).tok b k t o := by
  have hn : ∀ n : Fin 36864, n.val = (n.val / 64) * 64 + n.val % 64 := fun n => by omega
  unfold sums Arrays.gathered
  rw [joinRows_at]
  match b with
  | ⟨0, _⟩ =>
    refine (if_pos rfl).trans ((sumRows_at _ _ o p).trans (Finset.sum_congr rfl fun n _ => ?_))
    refine if_congr ?_ ((batch0_at _ o n).trans (token_at L pix hpix 0 ⟨n.val / 64, by omega⟩ ⟨n.val % 64, by omega⟩ o n (hn n))) rfl
    rw [row0_at]
    exact names_iff L pix hpix 0 _ _ p
  | ⟨1, _⟩ =>
    refine (if_neg (show ¬(1 : Fin 2) = 0 by decide)).trans ((sumRows_at _ _ o p).trans (Finset.sum_congr rfl fun n _ => ?_))
    refine if_congr ?_ ((batch1_at _ o n).trans (token_at L pix hpix 1 ⟨n.val / 64, by omega⟩ ⟨n.val % 64, by omega⟩ o n (hn n))) rfl
    rw [row1_at]
    exact names_iff L pix hpix 1 _ _ p

theorem counts_at (b : Fin 2) (p : Fin 147456) : counts L (ix2 b p) = (launch L pix).gathered b p fun _ _ => 1 := by
  unfold counts Arrays.gathered
  rw [joinCnts_at]
  match b with
  | ⟨0, _⟩ =>
    refine (if_pos rfl).trans ((cntRows_at _ p).trans (Finset.sum_congr rfl fun n _ => ?_))
    refine if_congr ?_ rfl rfl
    rw [row0_at]
    exact names_iff L pix hpix 0 _ _ p
  | ⟨1, _⟩ =>
    refine (if_neg (show ¬(1 : Fin 2) = 0 by decide)).trans ((cntRows_at _ p).trans (Finset.sum_congr rfl fun n _ => ?_))
    refine if_congr ?_ rfl rfl
    rw [row1_at]
    exact names_iff L pix hpix 1 _ _ p

end

/-- The reference's last operations, from the counts, the sums and the projected pixels. -/
def blended (n s : FVec Ideal S2x96x147456 .f32) (v : FVec Ideal S2x96x384x384 .f32) : FVec Ideal S2x96x384x384 .f32 :=
  addf (mulf (uitofp .f32 (cmpf .ogt (shapeCast S2x96x384x384 n shapeCasts_S2x96x147456_S2x96x384x384) (broadcastInDim S2x96x384x384 ![] bcast_S_S2x96x384x384 (constant S_ .f32 0x3727C5AC#32)))) (shapeCast S2x96x384x384 (Host.divf s (maximumf n (broadcastInDim S2x96x147456 ![] bcast_S_S2x96x147456 (constant S_ .f32 0x3F800000#32)))) shapeCasts_S2x96x147456_S2x96x384x384))
    (mulf (subf (broadcastInDim S2x96x384x384 ![] bcast_S_S2x96x384x384 (constant S_ .f32 0x3F800000#32)) (uitofp .f32 (cmpf .ogt (shapeCast S2x96x384x384 n shapeCasts_S2x96x147456_S2x96x384x384) (broadcastInDim S2x96x384x384 ![] bcast_S_S2x96x384x384 (constant S_ .f32 0x3727C5AC#32))))) v)

theorem blendOps_at (a d v : FVec Ideal S2x96x384x384 .f32) (i : S2x96x384x384.Idx) :
    addf (mulf a d) (mulf (subf (broadcastInDim S2x96x384x384 ![] bcast_S_S2x96x384x384 (constant S_ .f32 0x3F800000#32)) a) v) i
      = ((a i : EReal) * d i + ((Ideal.ofBits .f32 0x3F800000#32 : EReal) - a i) * v i : EReal) := rfl

theorem meanOps_at (n s : FVec Ideal S2x96x147456 .f32) (i : S2x96x147456.Idx) :
    Host.divf s (maximumf n (broadcastInDim S2x96x147456 ![] bcast_S_S2x96x147456 (constant S_ .f32 0x3F800000#32))) i
      = Ideal.div (s i) (max (n i : EReal) (Ideal.ofBits .f32 0x3F800000#32)) := rfl

theorem blended_at (n s : FVec Ideal S2x96x147456 .f32) (v : FVec Ideal S2x96x384x384 .f32) (b : Fin 2) (o : Fin 96) (y z : Fin 384)
    (k : ℕ) (hk : n (ix3 b o ⟨y.val * 384 + z.val, by omega⟩) = ((k : ℝ) : EReal)) :
    blended n s v (ix4 b o y z) = merged (s (ix3 b o ⟨y.val * 384 + z.val, by omega⟩)) ((k : ℝ) : EReal) (v (ix4 b o y z)) := by
  unfold blended
  rw [blendOps_at, test_at, image_at, image_at, meanOps_at, hk, Ideal.ofBits_one_f32]
  exact blend _ _ k

/-- The reference's result. -/
def result : FVec Ideal S2x96x384x384 .f32 :=
  blended (broadcastInDim S2x96x147456 ![0, 1, 2] bcast_S2x1x147456_S2x96x147456_0_1_2 (broadcastInDim S2x1x147456 ![0, 2] bcast_S2x147456_S2x1x147456_0_2 (counts L))) (sums L) (res_main_v29 L)

theorem result_at (hpix : ∀ b k t, rIdx L (ix3 b k t) = BitVec.ofNat 32 (pix b k t).val) (b : Fin 2) (o : Fin 96) (y z : Fin 384) :
    result L (ix4 b o y z) = (launch L pix).out b o ⟨y.val * 384 + z.val, by omega⟩ := by
  obtain ⟨k, hk⟩ := count_nat (launch L pix) b ⟨y.val * 384 + z.val, by omega⟩
  have hc : broadcastInDim S2x96x147456 ![0, 1, 2] bcast_S2x1x147456_S2x96x147456_0_1_2 (broadcastInDim S2x1x147456 ![0, 2] bcast_S2x147456_S2x1x147456_0_2 (counts L)) (ix3 b o ⟨y.val * 384 + z.val, by omega⟩) = ((k : ℝ) : EReal) :=
    (spreadCnt_at _ b o _).trans ((counts_at L pix hpix b _).trans hk)
  have hv : (res_main_v29 L : FVec Ideal S2x96x384x384 .f32) (ix4 b o y z) = (launch L pix).lin (launch L pix).vw b ⟨y.val * 384 + z.val, by omega⟩ o := by
    refine Eq.trans ?_ (lin_at L pix (rVw L) b o ⟨y.val * 384 + z.val, by omega⟩)
    refine Eq.trans ?_ (pixels_at _ b o y z).symm
    rfl
  unfold result
  rw [blended_at _ _ _ b o y z k hc]
  unfold Arrays.out
  rw [hk, sums_at L pix hpix, hv]

/-- Every execution of the reference ends with `result` in its result array and its arguments unchanged. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v137) = result (StableHlo.launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  run m ρ

end Cert.Proof.Ref

end
-- ==== Proof.Pre.lean ====
/- What the precondition says of the arrays: the layer norm's weight and bias and the three matrices are finite, every
   superpixel keeps a key, and every index names a pixel. -/
module

public import proofs.«01_k».proof.Defs
public import proofs.«01_k».proof.Proof.KernelValue
public import proofs.«01_k».proof.Proof.RefValue
public import Idealize.ShloMosaic.Lib.ReduceAll
public import Idealize.ShloMosaic.Lib.WordCmp

@[expose] public section

set_option maxRecDepth 16384

noncomputable section

namespace Cert.Proof

open Idealize.ShloMosaic Idealize.ShloMosaic.WordCmp Idealize.SL.Sem

/-- The shapes in the precondition fit together. -/
instance pre_facts : Cert.Pre_usable.Facts where
  bcast_S_S96 := by decide
  reducesTo_S96_S_d0 := by decide
  h_S_ := by decide
  bcast_S_S96x96 := by decide
  reducesTo_S96x96_S_d0_1 := by decide
  bcast_S_S2x576x64 := by decide
  reducesTo_S2x576x64_S2x576_d2 := by decide
  reducesTo_S2x576_S_d0_1 := by decide
  reducesTo_S2x576x64_S_d0_1_2 := by decide

namespace Pre

open Cert.Pre_usable

/-- There is one index of a scalar. -/
instance scalar_index : Subsingleton S_.Idx := ⟨fun i j => funext fun k => k.elim0⟩

/-- A left fold by `or` that came out 1 from 0 met a 1. -/
theorem fold_or {ι : Type} (f : ι → BitVec 1) : ∀ (l : List ι) (z : BitVec 1), l.foldl (fun r n => IntOp.ori r (f n)) z = 1#1 → z = 1#1 ∨ ∃ n ∈ l, f n = 1#1
  | [], _, h => Or.inl h
  | a :: l, z, h => by
    rcases fold_or f l _ h with h | ⟨n, hn, h⟩
    · have key : ∀ p q : BitVec 1, IntOp.ori p q = 1#1 → p = 1#1 ∨ q = 1#1 := by decide
      rcases key _ _ h with h | h
      · exact Or.inl h
      · exact Or.inr ⟨a, List.mem_cons_self .., h⟩
    · exact Or.inr ⟨n, List.mem_cons_of_mem _ hn, h⟩

/-- Both words of a conjunction that is 1 are 1. -/
theorem both {p q : BitVec 1} (h : IntOp.andi p q = 1#1) : p = 1#1 ∧ q = 1#1 := by
  revert p q; decide

/-- A value strictly between the infinities is real. -/
theorem real_of_between {s : Shape} (x : FVec Ideal s .f32) (h : S_.BroadcastsInDim s (![] : Fin 0 → Fin s.rank)) (i : s.Idx)
    (e : andi (cmpf .olt x (broadcastInDim s ![] h (constant S_ .f32 0x7F800000#32))) (cmpf .ogt x (broadcastInDim s ![] h (constant S_ .f32 0xFF800000#32))) i = 1#1) :
    IsReal (x i) := by
  have e' := both (p := BitVec.ofBool (decide ((x i : EReal) < Ideal.ofBits .f32 0x7F800000#32))) (q := BitVec.ofBool (decide ((Ideal.ofBits .f32 0xFF800000#32 : EReal) < x i))) e
  rw [ofBool_decide_eq_one_iff, ofBool_decide_eq_one_iff, cInf, cNegInf] at e'
  exact isReal_iff.2 ⟨ne_of_gt e'.2, ne_of_lt e'.1⟩

/-- A superpixel for which the test of a positive mask holds of some key has a key whose mask is positive. -/
theorem kept_of_any (x : FVec Ideal S2x576x64 .f32) (b : Fin 2) (k : Fin 576)
    (e : Host.reduce IntOp.ori (cmpf .ogt x (broadcastInDim S2x576x64 ![] Facts.bcast_S_S2x576x64 (constant S_ .f32 0x00000000#32))) (constantI S_ 1 0#1) Facts.reducesTo_S2x576x64_S2x576_d2 Facts.h_S_ (ix2 b k) = 1#1) :
    ∃ t, (0 : EReal) < x (ix3 b k t) := by
  rw [Host.reduce_eq_foldl] at e
  rcases fold_or _ _ _ e with h | ⟨i, hi, h⟩
  · exact absurd h (by decide)
  · rw [List.mem_filter] at hi
    have hd := of_decide_eq_true hi.2
    have h0 : (i 0).val = b.val := by
      rw [← Shape.ReducesTo.drop_apply_val_of_eq Facts.reducesTo_S2x576x64_S2x576_d2 i 0 0, hd]; rfl
    have h1 : (i 1).val = k.val := by
      rw [← Shape.ReducesTo.drop_apply_val_of_eq Facts.reducesTo_S2x576x64_S2x576_d2 i 1 1, hd]; rfl
    obtain ⟨t, ht⟩ : ∃ t : Fin 64, (i 2).val = t.val := ⟨⟨(i 2).val, (i 2).isLt⟩, rfl⟩
    refine ⟨t, ?_⟩
    have ei : i = ix3 b k t := by
      funext a
      match a with
      | 0 => exact Fin.ext h0
      | 1 => exact Fin.ext h1
      | 2 => exact Fin.ext ht
    rw [← ei]
    have h' : BitVec.ofBool (decide ((Ideal.ofBits .f32 0x00000000#32 : EReal) < x i)) = 1#1 := h
    rw [ofBool_decide_eq_one_iff, Ideal.ofBits_zero_f32] at h'
    exact h'

/-- What the precondition says of each array. -/
theorem read (x : FVec Ideal S2x96x384x384 .f32) (sim mask : FVec Ideal S2x576x64 .f32) (lw lb : FVec Ideal S96 .f32)
    (qw kw vw : FVec Ideal S96x96 .f32) (ind : IVec S2x576x64 32) (lab : IVec S2x147456 32) (num : IVec S_ 32)
    (h : Cert.Pre_usable.fn (F := Ideal) x sim mask lw lb qw kw vw ind lab num = fun _ => 1#1) :
    (∀ i, IsReal (lw i)) ∧ (∀ i, IsReal (lb i)) ∧ (∀ i, IsReal (qw i)) ∧ (∀ i, IsReal (kw i)) ∧ (∀ i, IsReal (vw i))
      ∧ (∀ b k, ∃ t, (0 : EReal) < mask (ix3 b k t)) ∧ ∀ i, (ind i).toNat < 147456 := by
  have h := congrFun h (fun a => a.elim0)
  unfold Cert.Pre_usable.fn at h
  unfold Cert.Pre_usable.fn_part1 at h
  unfold Cert.Pre_usable.fn_part2 at h
  dsimp only at h
  obtain ⟨h, h7⟩ := both h
  obtain ⟨h, h6⟩ := both h
  obtain ⟨h, h5⟩ := both h
  obtain ⟨h, h4⟩ := both h
  obtain ⟨h, h3⟩ := both h
  obtain ⟨h1, h2⟩ := both h
  refine ⟨fun i => real_of_between _ _ i (Host.reduce_andi_all _ _ _ _ _ h1 i), fun i => real_of_between _ _ i (Host.reduce_andi_all _ _ _ _ _ h2 i),
    fun i => real_of_between _ _ i (Host.reduce_andi_all _ _ _ _ _ h3 i), fun i => real_of_between _ _ i (Host.reduce_andi_all _ _ _ _ _ h4 i),
    fun i => real_of_between _ _ i (Host.reduce_andi_all _ _ _ _ _ h5 i),
    fun b k => kept_of_any mask b k (Host.reduce_andi_all _ _ _ _ _ h6 (ix2 b k)), fun i => ?_⟩
  have e : IntOp.andi (IntOp.cmpi .sge (ind i) 0#32) (IntOp.cmpi .slt (ind i) 147456#32) = 1#1 := Host.reduce_andi_all _ _ _ _ _ h7 i
  exact (ofBool_decide_eq_one_iff _).1 ((andi_sge_zero_slt_ofNat (w := 32) (k := 147456) (by norm_num) (ind i)).symm.trans e)

end Pre

open Cert.KernelIdeal in
/-- The pixel a token's word names. -/
def pixOf (m : (ℓ : Loc nD τ sig) → Buf (Elt Ideal) ℓ) (c : Dev nD) (b : Fin 2) (k : Fin 576) (t : Fin 64) : Fin 147456 :=
  ⟨(aIdx m c (ix3 b k t)).toNat % 147456, Nat.mod_lt _ (by norm_num)⟩

open Cert.KernelIdeal in
/-- Under the precondition the launch is usable and every word is the number of its pixel. -/
theorem usable_of_pre (m : (ℓ : Loc nD τ sig) → Buf (Elt Ideal) ℓ) (h : Cert.Pre_KernelIdeal_usable m) (c : Dev nD) :
    (launch m c (pixOf m c)).Usable ∧ ∀ b k t, aIdx m c (ix3 b k t) = BitVec.ofNat 32 (pixOf m c b k t).val := by
  obtain ⟨h1, h2, h3, h4, h5, h6, h7⟩ := Pre.read _ _ _ _ _ _ _ _ _ _ _ (h c)
  refine ⟨⟨fun k => h1 (ix1 k), fun k => h2 (ix1 k), fun o k => h3 (ix2 o k), fun o k => h4 (ix2 o k), fun o k => h5 (ix2 o k), h6⟩, fun b k t => ?_⟩
  have e := h7 (ix3 b k t)
  refine BitVec.eq_of_toNat_eq ?_
  have e' : (pixOf m c b k t).val = (aIdx m c (ix3 b k t)).toNat := Nat.mod_eq_of_lt e
  rw [e', BitVec.ofNat_toNat, BitVec.setWidth_eq]

end Cert.Proof

end
-- ==== Proof.Same.lean ====
/- The idealized kernel and the reference end with the same result. -/
module

public import proofs.«01_k».proof.Proof.Frames
public import proofs.«01_k».proof.Proof.KernelRun
public import proofs.«01_k».proof.Proof.Pre

@[expose] public section

set_option maxRecDepth 16384

noncomputable section

namespace Cert.Proof

open Idealize.ShloMosaic Idealize.SL.Sem

/-- From agreeing arguments the two launches hold the same arrays. -/
theorem same_launch (m : (ℓ : Loc Cert.KernelIdeal.nD Cert.KernelIdeal.τ Cert.KernelIdeal.sig) → Buf (Elt Ideal) ℓ)
    (L : Valuation Cert.ReferenceIdeal.τ Cert.ReferenceIdeal.sig (Elt Ideal)) (c : Dev Cert.KernelIdeal.nD) (pix : Fin 2 → Fin 576 → Fin 64 → Fin 147456)
    (h0 : Ref.rX L = aX m c) (h1 : Ref.rSim L = aSim m c) (h2 : Ref.rMask L = aMask m c) (h3 : Ref.rLw L = aLw m c) (h4 : Ref.rLb L = aLb m c)
    (h5 : Ref.rQw L = aQw m c) (h6 : Ref.rKw L = aKw m c) (h7 : Ref.rVw L = aVw m c) : Ref.launch L pix = launch m c pix := by
  unfold Ref.launch launch
  rw [h0, h1, h2, h3, h4, h5, h6, h7]

/-- Under the precondition and from agreeing arguments, the reference's result is the kernel's. -/
theorem same_result (m : (ℓ : Loc Cert.KernelIdeal.nD Cert.KernelIdeal.τ Cert.KernelIdeal.sig) → Buf (Elt Ideal) ℓ) (g : Dev Cert.KernelIdeal.nD → PrngReg)
    (L : Valuation Cert.ReferenceIdeal.τ Cert.ReferenceIdeal.sig (Elt Ideal)) (c : Dev Cert.KernelIdeal.nD) (hpre : Cert.Pre_KernelIdeal_usable m)
    (h0 : Ref.rX L = aX m c) (h1 : Ref.rSim L = aSim m c) (h2 : Ref.rMask L = aMask m c) (h3 : Ref.rLw L = aLw m c) (h4 : Ref.rLb L = aLb m c)
    (h5 : Ref.rQw L = aQw m c) (h6 : Ref.rKw L = aKw m c) (h7 : Ref.rVw L = aVw m c) (h8 : Ref.rIdx L = aIdx m c) :
    Ref.result L = Cert.KernelIdeal.Gen.W9 m g c (Proc.devRef .tc Cert.KernelIdeal.main_v47) := by
  obtain ⟨hu, hpix⟩ := usable_of_pre m hpre c
  funext i
  rw [eq_ix4 i]
  refine (Ref.result_at L (pixOf m c) (fun b k t => (congrFun h8 _).trans (hpix b k t)) _ _ _ _).trans ?_
  rw [same_launch m L c (pixOf m c) h0 h1 h2 h3 h4 h5 h6 h7]
  exact (kernel_at m g c (pixOf m c) hu hpix _ _ _ _).symm

/-- The idealized kernel and the reference compute the same result at every usable input. -/
theorem same : Cert.algebraic_KernelIdeal_ReferenceIdeal_pre_usable (hKernelIdeal := Cert.KernelIdeal.Gen.facts)
    (hReferenceIdeal := Cert.ReferenceIdeal.Gen.facts) (hPre_usable := pre_facts) := by
  intro m g m' g' hpre hag
  refine ⟨fun c => Cert.KernelIdeal.Gen.W9 m g c (Proc.devRef .tc Cert.KernelIdeal.main_v47), Cert.KernelIdeal.Gen.run_result m g, ?_⟩
  refine (θ_run Cert.ReferenceIdeal.defs _ _).mono (fun r h c => ⟨(h c).1.trans ?_, (h c).2⟩) (Ref.ref_run m' g')
  obtain ⟨h0, h1, h2, h3, h4, h5, h6, h7, h8, -, -⟩ := hag c
  exact same_result m g _ c hpre h0 h1 h2 h3 h4 h5 h6 h7 h8

/-- Under the precondition too the idealized kernel ends with its arguments unchanged and every counter at zero. -/
theorem kernelIdeal_quiet_usable : Cert.quiescent_KernelIdeal_pre_usable (hKernelIdeal := Cert.KernelIdeal.Gen.facts) (hPre_usable := pre_facts) :=
  fun m ρ _ => kernelIdeal_quiet m ρ trivial

/-- So does the reference. -/
theorem reference_quiet_usable : Cert.quiescent_ReferenceIdeal_pre_usable (hReferenceIdeal := Cert.ReferenceIdeal.Gen.facts) (hPre_usable := pre_facts) :=
  fun m ρ _ => reference_quiet m ρ trivial

end Cert.Proof

end
-- ==== Proof.lean ====
/- The whole certificate: the claims proved in the modules under Proof/, under the generated witnesses of the programs' facts. -/
module

public import proofs.«01_k».proof.Defs
public import proofs.«01_k».proof.Proof.Frames
public import proofs.«01_k».proof.Proof.Same

@[expose] public section

noncomputable section

namespace Cert.Proof

open Idealize.ShloMosaic Idealize.SL.Sem

/-- Everything the certificate claims. -/
theorem claim : Cert.Claim :=
  ⟨Cert.Kernel.Gen.facts, Cert.KernelIdeal.Gen.facts, Cert.ReferenceIdeal.Gen.facts, pre_facts,
    kernel_quiet, kernelIdeal_quiet, kernelIdeal_quiet_usable, reference_quiet, reference_quiet_usable, named, same⟩

end Cert.Proof

end
